-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sampled_logits_below_inf [hPre_sampled_logits_below_inf : Cert.Pre_sampled_logits_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_sampled_logits_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sampled_logits_below_inf [hPre_sampled_logits_below_inf : Cert.Pre_sampled_logits_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sampled_logits_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sampled_logits_below_inf [hKernelIdeal : Cert.KernelIdeal.Facts] [hPre_sampled_logits_below_inf : Cert.Pre_sampled_logits_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sampled_logits_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sampled_logits_below_inf [hReferenceIdeal : Cert.ReferenceIdeal.Facts] [hPre_sampled_logits_below_inf : Cert.Pre_sampled_logits_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sampled_logits_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sampled_logits_below_inf [hKernelIdeal : Cert.KernelIdeal.Facts] [hReferenceIdeal : Cert.ReferenceIdeal.Facts] [hPre_sampled_logits_below_inf : Cert.Pre_sampled_logits_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sampled_logits_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sampled_logits_below_inf : Cert.Pre_sampled_logits_below_inf.Facts),
    quiescent_Kernel (hKernel := hKernel)
    ∧ quiescent_KernelIdeal (hKernelIdeal := hKernelIdeal)
    ∧ quiescent_KernelIdeal_pre_sampled_logits_below_inf (hKernelIdeal := hKernelIdeal) (hPre_sampled_logits_below_inf := hPre_sampled_logits_below_inf)
    ∧ quiescent_ReferenceIdeal (hReferenceIdeal := hReferenceIdeal)
    ∧ quiescent_ReferenceIdeal_pre_sampled_logits_below_inf (hReferenceIdeal := hReferenceIdeal) (hPre_sampled_logits_below_inf := hPre_sampled_logits_below_inf)
    ∧ preserves_Kernel_KernelIdeal
    ∧ algebraic_KernelIdeal_ReferenceIdeal_pre_sampled_logits_below_inf (hKernelIdeal := hKernelIdeal) (hReferenceIdeal := hReferenceIdeal) (hPre_sampled_logits_below_inf := hPre_sampled_logits_below_inf)
-- ==== Pre_sampled_logits_below_inf.lean ====
abbrev S128x100000 : Shape := ⟨2, ![128, 100000]⟩
abbrev S128 : Shape := ⟨1, ![128]⟩
abbrev S_ : Shape := ⟨0, ![]⟩
abbrev S128x1 : Shape := ⟨2, ![128, 1]⟩

class Facts : Prop where
  bcast_S_S128 : S_.BroadcastsInDim S128 (![] : Fin 0 → Fin S128.rank)
  bcast_S128_S128x1_0 : S128.BroadcastsInDim S128x1 (![0] : Fin 1 → Fin S128x1.rank)
  bcast_S_S128x100000 : S_.BroadcastsInDim S128x100000 (![] : Fin 0 → Fin S128x100000.rank)
  bcast_S128x1_S128x100000_0_1 : S128x1.BroadcastsInDim S128x100000 (![0, 1] : Fin 2 → Fin S128x100000.rank)

variable [Facts]

def fn {F : FTy → Type} [FloatOps F] (main_arg0 : FVec F S128x100000 .f32) (main_arg1 : FVec F S128 .f32) : IVec S128x100000 1 :=
  let main_cst : FVec F S_ .f32 := constant S_ .f32 0x2EDBE6FF#32
  let main_v0 : FVec F S128 .f32 := broadcastInDim S128 ![] bcast_S_S128 main_cst
  let main_v1 : IVec S128 1 := cmpf .ole main_arg1 main_v0
  let main_v2 : IVec S128x1 1 := broadcastInDim S128x1 ![0] bcast_S128_S128x1_0 main_v1
  let main_cst_0 : FVec F S_ .f32 := constant S_ .f32 0x7F800000#32
  let main_v3 : FVec F S128x100000 .f32 := broadcastInDim S128x100000 ![] bcast_S_S128x100000 main_cst_0
  let main_v4 : IVec S128x100000 1 := cmpf .olt main_arg0 main_v3
  let main_v5 : IVec S128x100000 1 := broadcastInDim S128x100000 ![0, 1] bcast_S128x1_S128x100000_0_1 main_v2
  let main_v6 : IVec S128x100000 1 := ori main_v5 main_v4
  main_v6
-- ==== Kernel.lean ====
abbrev S128x100000 : Shape := ⟨2, ![128, 100000]⟩
abbrev S128 : Shape := ⟨1, ![128]⟩
abbrev S128x1 : Shape := ⟨2, ![128, 1]⟩
abbrev S128x2048 : Shape := ⟨2, ![128, 2048]⟩

abbrev nBuf : Space → Nat
  | .hbm => 5
  | .vmem => 8
  | .smem => 0
  | _ => 0

abbrev bufTy : (tb : Table) → Fin (tcTables nBuf tb) → BufTy
  | .hbm, ⟨0, _⟩ => ⟨S128x100000, .f32⟩
  | .hbm, ⟨1, _⟩ => ⟨S128, .f32⟩
  | .hbm, ⟨2, _⟩ => ⟨S128x1, .f32⟩
  | .hbm, ⟨3, _⟩ => ⟨S128x1, .i32⟩
  | .hbm, ⟨4, _⟩ => ⟨S128, .i32⟩
  | .local _ .vmem, ⟨0, _⟩ => ⟨S128x1, .f32⟩
  | .local _ .vmem, ⟨1, _⟩ => ⟨S128x2048, .f32⟩
  | .local _ .vmem, ⟨2, _⟩ => ⟨S128x2048, .f32⟩
  | .local _ .vmem, ⟨3, _⟩ => ⟨S128x1, .i32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c0_i32_47 : BitVec 32 := 0#32
  let v207 : BitVec 1 := Scalar.cmpi .eq arg0 c0_i32_47
  let v208 : BitVec 32 := Scalar.extui v207
  let c0_i32_48 : BitVec 32 := 0#32
  let v209 : BitVec 1 := Scalar.cmpi .ne v208 c0_i32_48
  v209

def k0_cond3 (i : grid0.Coords) : BitVec 1 :=
  let arg0 : BitVec 32 := BitVec.ofNat 32 (i 0).val
  let c0_i32_49 : BitVec 32 := 0#32
  let v210 : BitVec 1 := Scalar.cmpi .sgt arg0 c0_i32_49
  let v211 : BitVec 32 := Scalar.extui v210
  let c0_i32_50 : BitVec 32 := 0#32
  let v212 : BitVec 1 := Scalar.cmpi .ne v211 c0_i32_50
  v212

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S128x100000 : Shape := ⟨2, ![128, 100000]⟩
abbrev S128 : Shape := ⟨1, ![128]⟩
abbrev S_ : Shape := ⟨0, ![]⟩
abbrev S128x1 : Shape := ⟨2, ![128, 1]⟩
abbrev S1 : Shape := ⟨1, ![1]⟩
abbrev S2 : Shape := ⟨1, ![2]⟩
abbrev S1x1 : Shape := ⟨2, ![1, 1]⟩

abbrev nBuf : Space → Nat
  | .hbm => 318
  | .vmem => 0
  | .smem => 0
  | _ => 0

abbrev hbmTy0_0 (i : Nat) : BufTy := match i % 128 with
  | 0 => ⟨S128x100000, .f32⟩
  | 1 => ⟨S128, .f32⟩
  | 2 => ⟨S_, .f32⟩
  | 3 => ⟨S128, .f32⟩
  | 4 => ⟨S128, .i1⟩
  | 5 => ⟨S_, .f32⟩
  | 6 => ⟨S128, .f32⟩
  | 7 => ⟨S128, .f32⟩
  | 8 => ⟨S128x1, .f32⟩
  | 9 => ⟨S128x100000, .f32⟩
  | 10 => ⟨S128x100000, .f32⟩
  | 11 => ⟨S_, .f32⟩
  | 12 => ⟨S128, .f32⟩
  | 13 => ⟨S_, .f32⟩
  | 14 => ⟨S128, .f32⟩
  | 15 => ⟨S128, .f32⟩
  | 16 => ⟨S128x1, .f32⟩
  | 17 => ⟨S128x100000, .f32⟩
  | 18 => ⟨S128x100000, .f32⟩
  | 19 => ⟨S128x100000, .f32⟩
  | 20 => ⟨S_, .f32⟩
  | 21 => ⟨S128, .f32⟩
  | 22 => ⟨S128x1, .f32⟩
  | 23 => ⟨S128x100000, .f32⟩
  | 24 => ⟨S128x100000, .f32⟩
  | 25 => ⟨S_, .i32⟩
  | 26 => ⟨S_, .i32⟩
  | 27 => ⟨S_, .i32⟩
  | 28 => ⟨S_, .i32⟩
  | 29 => ⟨S1, .i32⟩
  | 30 => ⟨S_, .i32⟩
  | 31 => ⟨S_, .i32⟩
  | 32 => ⟨S_, .i32⟩
  | 33 => ⟨S1, .i32⟩
  | 34 => ⟨S2, .i32⟩
  | 35 => ⟨S_, .f32⟩
  | 36 => ⟨S_, .f32⟩
  | 37 => ⟨S_, .f32⟩
  | 38 => ⟨S_, .f32⟩
  | 39 => ⟨S1x1, .f32⟩
  | 40 => ⟨S1x1, .f32⟩
  | 41 => ⟨S1, .i32⟩
  | 42 => ⟨S_, .i32⟩
  | 43 => ⟨S1, .i32⟩
  | 44 => ⟨S_, .i32⟩
  | 45 => ⟨S128x100000, .i64⟩
  | 46 => ⟨S128x100000, .i64⟩
  | 47 => ⟨S_, .i64⟩
  | 48 => ⟨S128x100000, .i64⟩
  | 49 => ⟨S128x100000, .i64⟩
  | 50 => ⟨S_, .i64⟩
  | 51 => ⟨S128x100000, .i64⟩
  | 52 => ⟨S128x100000, .i64⟩
  | 53 => ⟨S128x100000, .i64⟩
  | 54 => ⟨S_, .i64⟩
  | 55 => ⟨S128x100000, .i64⟩
  | 56 => ⟨S128x100000, .i64⟩
  | 57 => ⟨S128x100000, .i32⟩
  | 58 => ⟨S128x100000, .i32⟩
  | 59 => ⟨S_, .i32⟩
  | 60 => ⟨S_, .i32⟩
  | 61 => ⟨S_, .i32⟩
  | 62 => ⟨S128x100000, .i32⟩
  | 63 => ⟨S128x100000, .i32⟩
  | 64 => ⟨S128x100000, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S128x100000, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S_, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_1 (i : Nat) : BufTy := match i % 128 with
  | 0 => ⟨S_, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S128x100000, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_2 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S_, .i32⟩
  | 30 => ⟨S128x100000, .i32⟩
  | 31 => ⟨S128x100000, .i32⟩
  | 32 => ⟨S128x100000, .f32⟩
  | 33 => ⟨S_, .f32⟩
  | 34 => ⟨S128x100000, .f32⟩
  | 35 => ⟨S128x100000, .f32⟩
  | 36 => ⟨S1x1, .f32⟩
  | 37 => ⟨S128x100000, .f32⟩
  | 38 => ⟨S128x100000, .f32⟩
  | 39 => ⟨S128x100000, .f32⟩
  | 40 => ⟨S128x100000, .f32⟩
  | 41 => ⟨S128x100000, .f32⟩
  | 42 => ⟨S128x100000, .f32⟩
  | 43 => ⟨S128x100000, .f32⟩
  | 44 => ⟨S128x100000, .f32⟩
  | 45 => ⟨S128x100000, .f32⟩
  | 46 => ⟨S_, .f32⟩
  | 47 => ⟨S_, .f32⟩
  | 48 => ⟨S128x100000, .f32⟩
  | 49 => ⟨S128x100000, .f32⟩
  | 50 => ⟨S128x100000, .f32⟩
  | 51 => ⟨S128x100000, .i32⟩
  | 52 => ⟨S_, .f32⟩
  | 53 => ⟨S_, .i32⟩
  | 54 => ⟨S128, .f32⟩
  | 55 => ⟨S128, .i32⟩
  | 56 => ⟨S128x100000, .i32⟩
  | 57 => ⟨S_, .f32⟩
  | 58 => ⟨S_, .i32⟩
  | 59 => ⟨S128, .f32⟩
  | 60 => ⟨S128, .i32⟩
  | 61 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_cst : Ref sig .tc := ⟨.hbm, 35, rfl⟩
abbrev main_call1_cst_0 : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_c : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_call0_c_0 : Ref sig .tc := ⟨.hbm, 50, rfl⟩
abbrev main_call1_call0_v12 : Ref sig .tc := ⟨.hbm, 51, rfl⟩
abbrev main_call1_call0_v13 : Ref sig .tc := ⟨.hbm, 52, rfl⟩
abbrev main_call1_call0_v14 : Ref sig .tc := ⟨.hbm, 53, rfl⟩
abbrev main_call1_call0_c_1 : Ref sig .tc := ⟨.hbm, 54, rfl⟩
abbrev main_call1_call0_v15 : Ref sig .tc := ⟨.hbm, 55, rfl⟩
abbrev main_call1_call0_v16 : Ref sig .tc := ⟨.hbm, 56, rfl⟩
abbrev main_call1_call0_v17 : Ref sig .tc := ⟨.hbm, 57, rfl⟩
abbrev main_call1_call0_v18 : Ref sig .tc := ⟨.hbm, 58, rfl⟩
abbrev main_call1_call0_call0_v0 : Ref sig .tc := ⟨.hbm, 59, rfl⟩
abbrev main_call1_call0_call0_c : Ref sig .tc := ⟨.hbm, 60, rfl⟩
abbrev main_call1_call0_call0_v1 : Ref sig .tc := ⟨.hbm, 61, rfl⟩
abbrev main_call1_call0_call0_v2 : Ref sig .tc := ⟨.hbm, 62, rfl⟩
abbrev main_call1_call0_call0_v3 : Ref sig .tc := ⟨.hbm, 63, rfl⟩
abbrev main_call1_call0_call0_v4 : Ref sig .tc := ⟨.hbm, 64, rfl⟩
abbrev main_call1_call0_call0_v5 : Ref sig .tc := ⟨.hbm, 65, rfl⟩
abbrev main_call1_call0_call0_v6 : Ref sig .tc := ⟨.hbm, 66, rfl⟩
abbrev main_call1_call0_call0_c_0 : Ref sig .tc := ⟨.hbm, 67, rfl⟩
abbrev main_call1_call0_call0_v7 : Ref sig .tc := ⟨.hbm, 68, rfl⟩
abbrev main_call1_call0_call0_v8 : Ref sig .tc := ⟨.hbm, 69, rfl⟩
abbrev main_call1_call0_call0_c_1 : Ref sig .tc := ⟨.hbm, 70, rfl⟩
abbrev main_call1_call0_call0_v9 : Ref sig .tc := ⟨.hbm, 71, rfl⟩
abbrev main_call1_call0_call0_v10 : Ref sig .tc := ⟨.hbm, 72, rfl⟩
abbrev main_call1_call0_call0_v11 : Ref sig .tc := ⟨.hbm, 73, rfl⟩
abbrev main_call1_call0_call0_v12 : Ref sig .tc := ⟨.hbm, 74, rfl⟩
abbrev main_call1_call0_call0_v13 : Ref sig .tc := ⟨.hbm, 75, rfl⟩
abbrev main_call1_call0_call0_c_2 : Ref sig .tc := ⟨.hbm, 76, rfl⟩
abbrev main_call1_call0_call0_v14 : Ref sig .tc := ⟨.hbm, 77, rfl⟩
abbrev main_call1_call0_call0_v15 : Ref sig .tc := ⟨.hbm, 78, rfl⟩
abbrev main_call1_call0_call0_c_3 : Ref sig .tc := ⟨.hbm, 79, rfl⟩
abbrev main_call1_call0_call0_v16 : Ref sig .tc := ⟨.hbm, 80, rfl⟩
abbrev main_call1_call0_call0_v17 : Ref sig .tc := ⟨.hbm, 81, rfl⟩
abbrev main_call1_call0_call0_v18 : Ref sig .tc := ⟨.hbm, 82, rfl⟩
abbrev main_call1_call0_call0_v19 : Ref sig .tc := ⟨.hbm, 83, rfl⟩
abbrev main_call1_call0_call0_v20 : Ref sig .tc := ⟨.hbm, 84, rfl⟩
abbrev main_call1_call0_call0_c_4 : Ref sig .tc := ⟨.hbm, 85, rfl⟩
abbrev main_call1_call0_call0_v21 : Ref sig .tc := ⟨.hbm, 86, rfl⟩
abbrev main_call1_call0_call0_v22 : Ref sig .tc := ⟨.hbm, 87, rfl⟩
abbrev main_call1_call0_call0_c_5 : Ref sig .tc := ⟨.hbm, 88, rfl⟩
abbrev main_call1_call0_call0_v23 : Ref sig .tc := ⟨.hbm, 89, rfl⟩
abbrev main_call1_call0_call0_v24 : Ref sig .tc := ⟨.hbm, 90, rfl⟩
abbrev main_call1_call0_call0_v25 : Ref sig .tc := ⟨.hbm, 91, rfl⟩
abbrev main_call1_call0_call0_v26 : Ref sig .tc := ⟨.hbm, 92, rfl⟩
abbrev main_call1_call0_call0_v27 : Ref sig .tc := ⟨.hbm, 93, rfl⟩
abbrev main_call1_call0_call0_c_6 : Ref sig .tc := ⟨.hbm, 94, rfl⟩
abbrev main_call1_call0_call0_v28 : Ref sig .tc := ⟨.hbm, 95, rfl⟩
abbrev main_call1_call0_call0_v29 : Ref sig .tc := ⟨.hbm, 96, rfl⟩
abbrev main_call1_call0_call0_c_7 : Ref sig .tc := ⟨.hbm, 97, rfl⟩
abbrev main_call1_call0_call0_v30 : Ref sig .tc := ⟨.hbm, 98, rfl⟩
abbrev main_call1_call0_call0_v31 : Ref sig .tc := ⟨.hbm, 99, rfl⟩
abbrev main_call1_call0_call0_v32 : Ref sig .tc := ⟨.hbm, 100, rfl⟩
abbrev main_call1_call0_call0_v33 : Ref sig .tc := ⟨.hbm, 101, rfl⟩
abbrev main_call1_call0_call0_v34 : Ref sig .tc := ⟨.hbm, 102, rfl⟩
abbrev main_call1_call0_call0_v35 : Ref sig .tc := ⟨.hbm, 103, rfl⟩
abbrev main_call1_call0_call0_v36 : Ref sig .tc := ⟨.hbm, 104, rfl⟩
abbrev main_call1_call0_call0_v37 : Ref sig .tc := ⟨.hbm, 105, rfl⟩
abbrev main_call1_call0_call0_c_8 : Ref sig .tc := ⟨.hbm, 106, rfl⟩
abbrev main_call1_call0_call0_v38 : Ref sig .tc := ⟨.hbm, 107, rfl⟩
abbrev main_call1_call0_call0_v39 : Ref sig .tc := ⟨.hbm, 108, rfl⟩
abbrev main_call1_call0_call0_v40 : Ref sig .tc := ⟨.hbm, 109, rfl⟩
abbrev main_call1_call0_call0_c_9 : Ref sig .tc := ⟨.hbm, 110, rfl⟩
abbrev main_call1_call0_call0_v41 : Ref sig .tc := ⟨.hbm, 111, rfl⟩
abbrev main_call1_call0_call0_v42 : Ref sig .tc := ⟨.hbm, 112, rfl⟩
abbrev main_call1_call0_call0_c_10 : Ref sig .tc := ⟨.hbm, 113, rfl⟩
abbrev main_call1_call0_call0_v43 : Ref sig .tc := ⟨.hbm, 114, rfl⟩
abbrev main_call1_call0_call0_v44 : Ref sig .tc := ⟨.hbm, 115, rfl⟩
abbrev main_call1_call0_call0_v45 : Ref sig .tc := ⟨.hbm, 116, rfl⟩
abbrev main_call1_call0_call0_v46 : Ref sig .tc := ⟨.hbm, 117, rfl⟩
abbrev main_call1_call0_call0_v47 : Ref sig .tc := ⟨.hbm, 118, rfl⟩
abbrev main_call1_call0_call0_c_11 : Ref sig .tc := ⟨.hbm, 119, rfl⟩
abbrev main_call1_call0_call0_v48 : Ref sig .tc := ⟨.hbm, 120, rfl⟩
abbrev main_call1_call0_call0_v49 : Ref sig .tc := ⟨.hbm, 121, rfl⟩
abbrev main_call1_call0_call0_c_12 : Ref sig .tc := ⟨.hbm, 122, rfl⟩
abbrev main_call1_call0_call0_v50 : Ref sig .tc := ⟨.hbm, 123, rfl⟩
abbrev main_call1_call0_call0_v51 : Ref sig .tc := ⟨.hbm, 124, rfl⟩
abbrev main_call1_call0_call0_v52 : Ref sig .tc := ⟨.hbm, 125, rfl⟩
abbrev main_call1_call0_call0_v53 : Ref sig .tc := ⟨.hbm, 126, rfl⟩
abbrev main_call1_call0_call0_v54 : Ref sig .tc := ⟨.hbm, 127, rfl⟩
abbrev main_call1_call0_call0_c_13 : Ref sig .tc := ⟨.hbm, 128, rfl⟩
abbrev main_call1_call0_call0_v55 : Ref sig .tc := ⟨.hbm, 129, rfl⟩
abbrev main_call1_call0_call0_v56 : Ref sig .tc := ⟨.hbm, 130, rfl⟩
abbrev main_call1_call0_call0_c_14 : Ref sig .tc := ⟨.hbm, 131, rfl⟩
abbrev main_call1_call0_call0_v57 : Ref sig .tc := ⟨.hbm, 132, rfl⟩
abbrev main_call1_call0_call0_v58 : Ref sig .tc := ⟨.hbm, 133, rfl⟩
abbrev main_call1_call0_call0_v59 : Ref sig .tc := ⟨.hbm, 134, rfl⟩
abbrev main_call1_call0_call0_v60 : Ref sig .tc := ⟨.hbm, 135, rfl⟩
abbrev main_call1_call0_call0_v61 : Ref sig .tc := ⟨.hbm, 136, rfl⟩
abbrev main_call1_call0_call0_c_15 : Ref sig .tc := ⟨.hbm, 137, rfl⟩
abbrev main_call1_call0_call0_v62 : Ref sig .tc := ⟨.hbm, 138, rfl⟩
abbrev main_call1_call0_call0_v63 : Ref sig .tc := ⟨.hbm, 139, rfl⟩
abbrev main_call1_call0_call0_c_16 : Ref sig .tc := ⟨.hbm, 140, rfl⟩
abbrev main_call1_call0_call0_v64 : Ref sig .tc := ⟨.hbm, 141, rfl⟩
abbrev main_call1_call0_call0_v65 : Ref sig .tc := ⟨.hbm, 142, rfl⟩
abbrev main_call1_call0_call0_v66 : Ref sig .tc := ⟨.hbm, 143, rfl⟩
abbrev main_call1_call0_call0_v67 : Ref sig .tc := ⟨.hbm, 144, rfl⟩
abbrev main_call1_call0_call0_v68 : Ref sig .tc := ⟨.hbm, 145, rfl⟩
abbrev main_call1_call0_call0_v69 : Ref sig .tc := ⟨.hbm, 146, rfl⟩
abbrev main_call1_call0_call0_v70 : Ref sig .tc := ⟨.hbm, 147, rfl⟩
abbrev main_call1_call0_call0_v71 : Ref sig .tc := ⟨.hbm, 148, rfl⟩
abbrev main_call1_call0_call0_c_17 : Ref sig .tc := ⟨.hbm, 149, rfl⟩
abbrev main_call1_call0_call0_v72 : Ref sig .tc := ⟨.hbm, 150, rfl⟩
abbrev main_call1_call0_call0_v73 : Ref sig .tc := ⟨.hbm, 151, rfl⟩
abbrev main_call1_call0_call0_v74 : Ref sig .tc := ⟨.hbm, 152, rfl⟩
abbrev main_call1_call0_call0_c_18 : Ref sig .tc := ⟨.hbm, 153, rfl⟩
abbrev main_call1_call0_call0_v75 : Ref sig .tc := ⟨.hbm, 154, rfl⟩
abbrev main_call1_call0_call0_v76 : Ref sig .tc := ⟨.hbm, 155, rfl⟩
abbrev main_call1_call0_call0_c_19 : Ref sig .tc := ⟨.hbm, 156, rfl⟩
abbrev main_call1_call0_call0_v77 : Ref sig .tc := ⟨.hbm, 157, rfl⟩
abbrev main_call1_call0_call0_v78 : Ref sig .tc := ⟨.hbm, 158, rfl⟩
abbrev main_call1_call0_call0_v79 : Ref sig .tc := ⟨.hbm, 159, rfl⟩
abbrev main_call1_call0_call0_v80 : Ref sig .tc := ⟨.hbm, 160, rfl⟩
abbrev main_call1_call0_call0_v81 : Ref sig .tc := ⟨.hbm, 161, rfl⟩
abbrev main_call1_call0_call0_c_20 : Ref sig .tc := ⟨.hbm, 162, rfl⟩
abbrev main_call1_call0_call0_v82 : Ref sig .tc := ⟨.hbm, 163, rfl⟩
abbrev main_call1_call0_call0_v83 : Ref sig .tc := ⟨.hbm, 164, rfl⟩
abbrev main_call1_call0_call0_c_21 : Ref sig .tc := ⟨.hbm, 165, rfl⟩
abbrev main_call1_call0_call0_v84 : Ref sig .tc := ⟨.hbm, 166, rfl⟩
abbrev main_call1_call0_call0_v85 : Ref sig .tc := ⟨.hbm, 167, rfl⟩
abbrev main_call1_call0_call0_v86 : Ref sig .tc := ⟨.hbm, 168, rfl⟩
abbrev main_call1_call0_call0_v87 : Ref sig .tc := ⟨.hbm, 169, rfl⟩
abbrev main_call1_call0_call0_v88 : Ref sig .tc := ⟨.hbm, 170, rfl⟩
abbrev main_call1_call0_call0_c_22 : Ref sig .tc := ⟨.hbm, 171, rfl⟩
abbrev main_call1_call0_call0_v89 : Ref sig .tc := ⟨.hbm, 172, rfl⟩
abbrev main_call1_call0_call0_v90 : Ref sig .tc := ⟨.hbm, 173, rfl⟩
abbrev main_call1_call0_call0_c_23 : Ref sig .tc := ⟨.hbm, 174, rfl⟩
abbrev main_call1_call0_call0_v91 : Ref sig .tc := ⟨.hbm, 175, rfl⟩
abbrev main_call1_call0_call0_v92 : Ref sig .tc := ⟨.hbm, 176, rfl⟩
abbrev main_call1_call0_call0_v93 : Ref sig .tc := ⟨.hbm, 177, rfl⟩
abbrev main_call1_call0_call0_v94 : Ref sig .tc := ⟨.hbm, 178, rfl⟩
abbrev main_call1_call0_call0_v95 : Ref sig .tc := ⟨.hbm, 179, rfl⟩
abbrev main_call1_call0_call0_c_24 : Ref sig .tc := ⟨.hbm, 180, rfl⟩
abbrev main_call1_call0_call0_v96 : Ref sig .tc := ⟨.hbm, 181, rfl⟩
abbrev main_call1_call0_call0_v97 : Ref sig .tc := ⟨.hbm, 182, rfl⟩
abbrev main_call1_call0_call0_c_25 : Ref sig .tc := ⟨.hbm, 183, rfl⟩
abbrev main_call1_call0_call0_v98 : Ref sig .tc := ⟨.hbm, 184, rfl⟩
abbrev main_call1_call0_call0_v99 : Ref sig .tc := ⟨.hbm, 185, rfl⟩
abbrev main_call1_call0_call0_v100 : Ref sig .tc := ⟨.hbm, 186, rfl⟩
abbrev main_call1_call0_call0_v101 : Ref sig .tc := ⟨.hbm, 187, rfl⟩
abbrev main_call1_call0_call0_v102 : Ref sig .tc := ⟨.hbm, 188, rfl⟩
abbrev main_call1_call0_call0_v103 : Ref sig .tc := ⟨.hbm, 189, rfl⟩
abbrev main_call1_call0_call0_v104 : Ref sig .tc := ⟨.hbm, 190, rfl⟩
abbrev main_call1_call0_call0_v105 : Ref sig .tc := ⟨.hbm, 191, rfl⟩
abbrev main_call1_call0_call0_c_26 : Ref sig .tc := ⟨.hbm, 192, rfl⟩
abbrev main_call1_call0_call0_v106 : Ref sig .tc := ⟨.hbm, 193, rfl⟩
abbrev main_call1_call0_call0_v107 : Ref sig .tc := ⟨.hbm, 194, rfl⟩
abbrev main_call1_call0_call0_v108 : Ref sig .tc := ⟨.hbm, 195, rfl⟩
abbrev main_call1_call0_call0_c_27 : Ref sig .tc := ⟨.hbm, 196, rfl⟩
abbrev main_call1_call0_call0_v109 : Ref sig .tc := ⟨.hbm, 197, rfl⟩
abbrev main_call1_call0_call0_v110 : Ref sig .tc := ⟨.hbm, 198, rfl⟩
abbrev main_call1_call0_call0_c_28 : Ref sig .tc := ⟨.hbm, 199, rfl⟩
abbrev main_call1_call0_call0_v111 : Ref sig .tc := ⟨.hbm, 200, rfl⟩
abbrev main_call1_call0_call0_v112 : Ref sig .tc := ⟨.hbm, 201, rfl⟩
abbrev main_call1_call0_call0_v113 : Ref sig .tc := ⟨.hbm, 202, rfl⟩
abbrev main_call1_call0_call0_v114 : Ref sig .tc := ⟨.hbm, 203, rfl⟩
abbrev main_call1_call0_call0_v115 : Ref sig .tc := ⟨.hbm, 204, rfl⟩
abbrev main_call1_call0_call0_c_29 : Ref sig .tc := ⟨.hbm, 205, rfl⟩
abbrev main_call1_call0_call0_v116 : Ref sig .tc := ⟨.hbm, 206, rfl⟩
abbrev main_call1_call0_call0_v117 : Ref sig .tc := ⟨.hbm, 207, rfl⟩
abbrev main_call1_call0_call0_c_30 : Ref sig .tc := ⟨.hbm, 208, rfl⟩
abbrev main_call1_call0_call0_v118 : Ref sig .tc := ⟨.hbm, 209, rfl⟩
abbrev main_call1_call0_call0_v119 : Ref sig .tc := ⟨.hbm, 210, rfl⟩
abbrev main_call1_call0_call0_v120 : Ref sig .tc := ⟨.hbm, 211, rfl⟩
abbrev main_call1_call0_call0_v121 : Ref sig .tc := ⟨.hbm, 212, rfl⟩
abbrev main_call1_call0_call0_v122 : Ref sig .tc := ⟨.hbm, 213, rfl⟩
abbrev main_call1_call0_call0_c_31 : Ref sig .tc := ⟨.hbm, 214, rfl⟩
abbrev main_call1_call0_call0_v123 : Ref sig .tc := ⟨.hbm, 215, rfl⟩
abbrev main_call1_call0_call0_v124 : Ref sig .tc := ⟨.hbm, 216, rfl⟩
abbrev main_call1_call0_call0_c_32 : Ref sig .tc := ⟨.hbm, 217, rfl⟩
abbrev main_call1_call0_call0_v125 : Ref sig .tc := ⟨.hbm, 218, rfl⟩
abbrev main_call1_call0_call0_v126 : Ref sig .tc := ⟨.hbm, 219, rfl⟩
abbrev main_call1_call0_call0_v127 : Ref sig .tc := ⟨.hbm, 220, rfl⟩
abbrev main_call1_call0_call0_v128 : Ref sig .tc := ⟨.hbm, 221, rfl⟩
abbrev main_call1_call0_call0_v129 : Ref sig .tc := ⟨.hbm, 222, rfl⟩
abbrev main_call1_call0_call0_c_33 : Ref sig .tc := ⟨.hbm, 223, rfl⟩
abbrev main_call1_call0_call0_v130 : Ref sig .tc := ⟨.hbm, 224, rfl⟩
abbrev main_call1_call0_call0_v131 : Ref sig .tc := ⟨.hbm, 225, rfl⟩
abbrev main_call1_call0_call0_c_34 : Ref sig .tc := ⟨.hbm, 226, rfl⟩
abbrev main_call1_call0_call0_v132 : Ref sig .tc := ⟨.hbm, 227, rfl⟩
abbrev main_call1_call0_call0_v133 : Ref sig .tc := ⟨.hbm, 228, rfl⟩
abbrev main_call1_call0_call0_v134 : Ref sig .tc := ⟨.hbm, 229, rfl⟩
abbrev main_call1_call0_call0_v135 : Ref sig .tc := ⟨.hbm, 230, rfl⟩
abbrev main_call1_call0_call0_v136 : Ref sig .tc := ⟨.hbm, 231, rfl⟩
abbrev main_call1_call0_call0_v137 : Ref sig .tc := ⟨.hbm, 232, rfl⟩
abbrev main_call1_call0_call0_v138 : Ref sig .tc := ⟨.hbm, 233, rfl⟩
abbrev main_call1_call0_call0_v139 : Ref sig .tc := ⟨.hbm, 234, rfl⟩
abbrev main_call1_call0_call0_c_35 : Ref sig .tc := ⟨.hbm, 235, rfl⟩
abbrev main_call1_call0_call0_v140 : Ref sig .tc := ⟨.hbm, 236, rfl⟩
abbrev main_call1_call0_call0_v141 : Ref sig .tc := ⟨.hbm, 237, rfl⟩
abbrev main_call1_call0_call0_v142 : Ref sig .tc := ⟨.hbm, 238, rfl⟩
abbrev main_call1_call0_call0_c_36 : Ref sig .tc := ⟨.hbm, 239, rfl⟩
abbrev main_call1_call0_call0_v143 : Ref sig .tc := ⟨.hbm, 240, rfl⟩
abbrev main_call1_call0_call0_v144 : Ref sig .tc := ⟨.hbm, 241, rfl⟩
abbrev main_call1_call0_call0_c_37 : Ref sig .tc := ⟨.hbm, 242, rfl⟩
abbrev main_call1_call0_call0_v145 : Ref sig .tc := ⟨.hbm, 243, rfl⟩
abbrev main_call1_call0_call0_v146 : Ref sig .tc := ⟨.hbm, 244, rfl⟩
abbrev main_call1_call0_call0_v147 : Ref sig .tc := ⟨.hbm, 245, rfl⟩
abbrev main_call1_call0_call0_v148 : Ref sig .tc := ⟨.hbm, 246, rfl⟩
abbrev main_call1_call0_call0_v149 : Ref sig .tc := ⟨.hbm, 247, rfl⟩
abbrev main_call1_call0_call0_c_38 : Ref sig .tc := ⟨.hbm, 248, rfl⟩
abbrev main_call1_call0_call0_v150 : Ref sig .tc := ⟨.hbm, 249, rfl⟩
abbrev main_call1_call0_call0_v151 : Ref sig .tc := ⟨.hbm, 250, rfl⟩
abbrev main_call1_call0_call0_c_39 : Ref sig .tc := ⟨.hbm, 251, rfl⟩
abbrev main_call1_call0_call0_v152 : Ref sig .tc := ⟨.hbm, 252, rfl⟩
abbrev main_call1_call0_call0_v153 : Ref sig .tc := ⟨.hbm, 253, rfl⟩
abbrev main_call1_call0_call0_v154 : Ref sig .tc := ⟨.hbm, 254, rfl⟩
abbrev main_call1_call0_call0_v155 : Ref sig .tc := ⟨.hbm, 255, rfl⟩
abbrev main_call1_call0_call0_v156 : Ref sig .tc := ⟨.hbm, 256, rfl⟩
abbrev main_call1_call0_call0_c_40 : Ref sig .tc := ⟨.hbm, 257, rfl⟩
abbrev main_call1_call0_call0_v157 : Ref sig .tc := ⟨.hbm, 258, rfl⟩
abbrev main_call1_call0_call0_v158 : Ref sig .tc := ⟨.hbm, 259, rfl⟩
abbrev main_call1_call0_call0_c_41 : Ref sig .tc := ⟨.hbm, 260, rfl⟩
abbrev main_call1_call0_call0_v159 : Ref sig .tc := ⟨.hbm, 261, rfl⟩
abbrev main_call1_call0_call0_v160 : Ref sig .tc := ⟨.hbm, 262, rfl⟩
abbrev main_call1_call0_call0_v161 : Ref sig .tc := ⟨.hbm, 263, rfl⟩
abbrev main_call1_call0_call0_v162 : Ref sig .tc := ⟨.hbm, 264, rfl⟩
abbrev main_call1_call0_call0_v163 : Ref sig .tc := ⟨.hbm, 265, rfl⟩
abbrev main_call1_call0_call0_c_42 : Ref sig .tc := ⟨.hbm, 266, rfl⟩
abbrev main_call1_call0_call0_v164 : Ref sig .tc := ⟨.hbm, 267, rfl⟩
abbrev main_call1_call0_call0_v165 : Ref sig .tc := ⟨.hbm, 268, rfl⟩
abbrev main_call1_call0_call0_c_43 : Ref sig .tc := ⟨.hbm, 269, rfl⟩
abbrev main_call1_call0_call0_v166 : Ref sig .tc := ⟨.hbm, 270, rfl⟩
abbrev main_call1_call0_call0_v167 : Ref sig .tc := ⟨.hbm, 271, rfl⟩
abbrev main_call1_call0_call0_v168 : Ref sig .tc := ⟨.hbm, 272, rfl⟩
abbrev main_call1_call0_call0_v169 : Ref sig .tc := ⟨.hbm, 273, rfl⟩
abbrev main_call1_call0_call0_v170 : Ref sig .tc := ⟨.hbm, 274, rfl⟩
abbrev main_call1_call0_v19_0 : Ref sig .tc := ⟨.hbm, 275, rfl⟩
abbrev main_call1_call0_call0_v172 : Ref sig .tc := ⟨.hbm, 276, rfl⟩
abbrev main_call1_call0_call0_v173 : Ref sig .tc := ⟨.hbm, 277, rfl⟩
abbrev main_call1_call0_call0_c_44 : Ref sig .tc := ⟨.hbm, 278, rfl⟩
abbrev main_call1_call0_call0_v174 : Ref sig .tc := ⟨.hbm, 279, rfl⟩
abbrev main_call1_call0_v19_1 : Ref sig .tc := ⟨.hbm, 280, rfl⟩
abbrev main_call1_call0_v20 : Ref sig .tc := ⟨.hbm, 281, rfl⟩
abbrev main_call1_call0_c_2 : Ref sig .tc := ⟨.hbm, 282, rfl⟩
abbrev main_call1_call0_v21 : Ref sig .tc := ⟨.hbm, 283, rfl⟩
abbrev main_call1_call0_v22 : Ref sig .tc := ⟨.hbm, 284, rfl⟩
abbrev main_call1_call0_c_3 : Ref sig .tc := ⟨.hbm, 285, rfl⟩
abbrev main_call1_call0_v23 : Ref sig .tc := ⟨.hbm, 286, rfl⟩
abbrev main_call1_call0_v24 : Ref sig .tc := ⟨.hbm, 287, rfl⟩
abbrev main_call1_call0_v25 : Ref sig .tc := ⟨.hbm, 288, rfl⟩
abbrev main_call1_call0_cst : Ref sig .tc := ⟨.hbm, 289, rfl⟩
abbrev main_call1_call0_v26 : Ref sig .tc := ⟨.hbm, 290, rfl⟩
abbrev main_call1_call0_v27 : Ref sig .tc := ⟨.hbm, 291, rfl⟩
abbrev main_call1_call0_v28 : Ref sig .tc := ⟨.hbm, 292, rfl⟩
abbrev main_call1_call0_v29 : Ref sig .tc := ⟨.hbm, 293, rfl⟩
abbrev main_call1_call0_v30 : Ref sig .tc := ⟨.hbm, 294, rfl⟩
abbrev main_call1_call0_v31 : Ref sig .tc := ⟨.hbm, 295, rfl⟩
abbrev main_call1_call0_v32 : Ref sig .tc := ⟨.hbm, 296, rfl⟩
abbrev main_call1_call0_v33 : Ref sig .tc := ⟨.hbm, 297, rfl⟩
abbrev main_call1_v0 : Ref sig .tc := ⟨.hbm, 298, rfl⟩
abbrev main_call1_v1 : Ref sig .tc := ⟨.hbm, 299, rfl⟩
abbrev main_call1_v2 : Ref sig .tc := ⟨.hbm, 300, rfl⟩
abbrev main_v25 : Ref sig .tc := ⟨.hbm, 301, rfl⟩
abbrev main_cst_6 : Ref sig .tc := ⟨.hbm, 302, rfl⟩
abbrev main_call2_v0 : Ref sig .tc := ⟨.hbm, 303, rfl⟩
abbrev main_call2_v1 : Ref sig .tc := ⟨.hbm, 304, rfl⟩
abbrev main_v26 : Ref sig .tc := ⟨.hbm, 305, rfl⟩
abbrev main_v27 : Ref sig .tc := ⟨.hbm, 306, rfl⟩
abbrev main_call3_v0 : Ref sig .tc := ⟨.hbm, 307, rfl⟩
abbrev main_call3_cst : Ref sig .tc := ⟨.hbm, 308, rfl⟩
abbrev main_call3_c : Ref sig .tc := ⟨.hbm, 309, rfl⟩
abbrev main_call3_v1_0 : Ref sig .tc := ⟨.hbm, 310, rfl⟩
abbrev main_v28 : Ref sig .tc := ⟨.hbm, 311, rfl⟩
abbrev main_call4_v0 : Ref sig .tc := ⟨.hbm, 312, rfl⟩
abbrev main_call4_cst : Ref sig .tc := ⟨.hbm, 313, rfl⟩
abbrev main_call4_c : Ref sig .tc := ⟨.hbm, 314, rfl⟩
abbrev main_call4_v1_0 : Ref sig .tc := ⟨.hbm, 315, rfl⟩
abbrev main_v29 : Ref sig .tc := ⟨.hbm, 316, rfl⟩
abbrev main_v30 : Ref sig .tc := ⟨.hbm, 317, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F] [∀ e, Nonempty (Elt F e)]

local notation "𝕄" => MT nD τ sig Unit (Elt F) ℕ (UR sig nD τ) ℕ

/-! ## What the body computes at a point -/

/-- The uniform variates of a block of columns, from the row bases `rb`. -/
def unif (i : grid0.Coords) (rb : Vec F S128x1 .i32) : FVec F S128x2048 .f32 :=
  let x1 := k0_pay21 i rb
  let x0 := k0_pay22 i rb
  let y1 := k0_pay35 x1 x0 k0_pay23
  let y0 := k0_pay36 x1 x0 k0_pay23
  k0_pay50 (k0_pay48 y1 y0) (k0_pay49 y1 y0)

theorem body_first (c : Dev nD) (i : grid0.Coords) (h2 : k0_cond2 i = 1#1) (h3 : ¬ k0_cond3 i = 1#1)
    (arg1 : Memref sig .tc .vmem S128x1 .f32) (harg1 : arg1.IsWhole) (arg2 : Memref sig .tc .vmem S128x2048 .f32) (harg2 : arg2.IsWhole)
    (arg3 : Memref sig .tc .vmem S128x1 .i32) (harg3 : arg3.IsWhole) (arg4 : Memref sig .tc .vmem S128x1 .f32) (harg4 : arg4.IsWhole)
    (arg5 : Memref sig .tc .vmem S128x1 .f32) (harg5 : arg5.IsWhole) (arg6 : Memref sig .tc .vmem S128x1 .f32) (harg6 : arg6.IsWhole)
    (arg7 : Memref sig .tc .vmem S128x1 .i32) (harg7 : arg7.IsWhole)
    (T : FVec F S128x1 .f32) (L : FVec F S128x2048 .f32) (K : PUnit → sProp 𝕄) :
    iprop(owns (c : Thread nD τ) arg1 fullShare T ∗ owns (c : Thread nD τ) arg2 fullShare L
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare T ∗ owns (c : Thread nD τ) arg2 fullShare L
            ∗ owns (c : Thread nD τ) arg3 fullShare (k0_pay3 (k0_pay13 i) (unif i k0_pay12) L (k0_pay10 T) (k0_pay11 T))
            ∗ owns (c : Thread nD τ) arg4 fullShare (k0_pay4 (k0_pay13 i) (unif i k0_pay12) L (k0_pay10 T) (k0_pay11 T))
            ∗ owns (c : Thread nD τ) arg5 fullShare (k0_pay10 T) ∗ owns (c : Thread nD τ) arg6 fullShare (k0_pay11 T)
            ∗ owns (c : Thread nD τ) arg7 fullShare k0_pay12) -∗ K ⟨⟩))
      ⊢ wp frame (wpE (defs₀ (F := F)) Variants.none c none) Set.univ
          (cc0__sample_kernel i arg1 harg1 arg2 harg2 arg3 harg3 arg4 harg4 arg5 harg5 arg6 harg6 arg7 harg7) K := by
  have h1 : (Scalar.cmpi .ne (Scalar.extui (Scalar.cmpi .eq (BitVec.ofNat 32 (i 0).val) 0#32)) 0#32 : BitVec 1) = 1#1 := h2
  simp only [cc0__sample_kernel_eq_skeleton]; unfold cc0__sample_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f1, %e1, H1⟩, ⟨%f2, %e2, H2⟩, ⟨%d3, %f3, -, H3⟩, ⟨%d4, %f4, -, H4⟩, ⟨%d5, %f5, -, H5⟩, ⟨%d6, %f6, -, H6⟩, ⟨%d7, %f7, -, H7⟩, Hk⟩
  sl_exec (disch := first | exact h2 | exact h3 | exact h1)
  sl_step
  iapply Hk
  have e7 : body_first.sl.v7 (F := F) c arg7 = k0_pay12 := View.readCov_full _ _ _ _ _
  have e213 : View.readAt (Elt F) arg1.view (Rect.unit ![0, 0] S128x1.size inb_S128x1_S128x1_0_0).toLoadRect f1 = T := (View.readAt_full _ _ _).trans e1
  have e187 : View.readAt (Elt F) arg2.view (Rect.unit ![0, 0] S128x2048.size inb_S128x2048_S128x2048_0_0).toLoadRect f2 = L := (View.readAt_full _ _ _).trans e2
  have e188 : body_first.sl.v188 c arg1 arg5 f1 = k0_pay10 T := (View.readCov_full _ _ _ _ _).trans (by rw [← e213])
  have e191 : body_first.sl.v191 c arg1 arg6 f1 = k0_pay11 T := (View.readCov_full _ _ _ _ _).trans (by rw [← e213])
  isplitl [H1]; · iexists f1; isplitr; · ipureintro; exact e1
                  iexact H1
  isplitl [H2]; · iexists f2; isplitr; · ipureintro; exact e2
                  iexact H2
  isplitl [H3]
  · iexists _; isplitr; swap; · iexact H3
    ipureintro
    refine (View.read_writes_full _ _ _ _ _).trans ?_
    rw [e7, e188, e191]
    erw [e187]; rfl
  isplitl [H4]
  · iexists _; isplitr; swap; · iexact H4
    ipureintro
    refine (View.read_writes_full _ _ _ _ _).trans ?_
    rw [e7, e188, e191]
    erw [e187]; rfl
  isplitl [H5]
  · iexists _; isplitr; swap; · iexact H5
    ipureintro
    refine (View.read_writes_full _ _ _ _ _).trans ?_
    rw [← e213]
  isplitl [H6]
  · iexists _; isplitr; swap; · iexact H6
    ipureintro
    refine (View.read_writes_full _ _ _ _ _).trans ?_
    rw [← e213]
  iexists _; isplitr; swap; · iexact H7
  ipureintro
  exact View.read_writes_full _ _ _ _ _

theorem body_next (c : Dev nD) (i : grid0.Coords) (h2 : ¬ k0_cond2 i = 1#1) (h3 : k0_cond3 i = 1#1)
    (arg1 : Memref sig .tc .vmem S128x1 .f32) (harg1 : arg1.IsWhole) (arg2 : Memref sig .tc .vmem S128x2048 .f32) (harg2 : arg2.IsWhole)
    (arg3 : Memref sig .tc .vmem S128x1 .i32) (harg3 : arg3.IsWhole) (arg4 : Memref sig .tc .vmem S128x1 .f32) (harg4 : arg4.IsWhole)
    (arg5 : Memref sig .tc .vmem S128x1 .f32) (harg5 : arg5.IsWhole) (arg6 : Memref sig .tc .vmem S128x1 .f32) (harg6 : arg6.IsWhole)
    (arg7 : Memref sig .tc .vmem S128x1 .i32) (harg7 : arg7.IsWhole)
    (L : FVec F S128x2048 .f32) (o : IVec S128x1 32) (b a g : FVec F S128x1 .f32) (rb : IVec S128x1 32) (K : PUnit → sProp 𝕄) :
    iprop(owns (c : Thread nD τ) arg2 fullShare L
        ∗ owns (Val := Elt F) (c : Thread nD τ) arg3 fullShare o ∗ owns (c : Thread nD τ) arg4 fullShare b
        ∗ owns (c : Thread nD τ) arg5 fullShare a ∗ owns (c : Thread nD τ) arg6 fullShare g
        ∗ owns (Val := Elt F) (c : Thread nD τ) arg7 fullShare rb
        ∗ (iprop(owns (c : Thread nD τ) arg2 fullShare L
            ∗ owns (Val := Elt F) (c : Thread nD τ) arg3 fullShare (k0_pay7 (k0_pay13 i) (unif i rb) L a g b o)
            ∗ owns (c : Thread nD τ) arg4 fullShare (k0_pay6 (k0_pay13 i) (unif i rb) L a g b b)
            ∗ owns (c : Thread nD τ) arg5 fullShare a ∗ owns (c : Thread nD τ) arg6 fullShare g
            ∗ owns (Val := Elt F) (c : Thread nD τ) arg7 fullShare rb) -∗ K ⟨⟩))
      ⊢ wp frame (wpE (defs₀ (F := F)) Variants.none c none) Set.univ
          (cc0__sample_kernel i arg1 harg1 arg2 harg2 arg3 harg3 arg4 harg4 arg5 harg5 arg6 harg6 arg7 harg7) K := by
  have h1 : ¬ (Scalar.cmpi .ne (Scalar.extui (Scalar.cmpi .eq (BitVec.ofNat 32 (i 0).val) 0#32)) 0#32 : BitVec 1) = 1#1 := h2
  simp only [cc0__sample_kernel_eq_skeleton]; unfold cc0__sample_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, Hk⟩
  sl_exec (disch := first | exact h2 | exact h3 | exact h1)
  sl_step
  iapply Hk
  have r2 : View.readAt (Elt F) arg2.view (Rect.unit ![0, 0] S128x2048.size inb_S128x2048_S128x2048_0_0).toLoadRect f2 = L := (View.readAt_full _ _ _).trans e2
  have r3 : View.readAt (Elt F) arg3.view (Rect.unit ![0, 0] S128x1.size inb_S128x1_S128x1_0_0).toLoadRect f3 = o := (View.readAt_full _ _ _).trans e3
  have r4 : View.readAt (Elt F) arg4.view (Rect.unit ![0, 0] S128x1.size inb_S128x1_S128x1_0_0).toLoadRect f4 = b := (View.readAt_full _ _ _).trans e4
  have r5 : View.readAt (Elt F) arg5.view (Rect.unit ![0, 0] S128x1.size inb_S128x1_S128x1_0_0).toLoadRect f5 = a := (View.readAt_full _ _ _).trans e5
  have r6 : View.readAt (Elt F) arg6.view (Rect.unit ![0, 0] S128x1.size inb_S128x1_S128x1_0_0).toLoadRect f6 = g := (View.readAt_full _ _ _).trans e6
  have r7 : View.readAt (Elt F) arg7.view (Rect.unit ![0, 0] S128x1.size inb_S128x1_S128x1_0_0).toLoadRect f7 = rb := (View.readAt_full _ _ _).trans e7
  isplitl [H2]; · iexists f2; isplitr; · ipureintro; exact e2
                  iexact H2
  isplitl [H3]
  · iexists _; isplitr; swap; · iexact H3
    ipureintro
    refine (View.read_writes_full _ _ _ _ _).trans ?_
    rw [← r2, ← r3, ← r4, ← r5, ← r6, ← r7]; rfl
  isplitl [H4]
  · iexists _; isplitr; swap; · iexact H4
    ipureintro
    refine (View.read_writes_full _ _ _ _ _).trans ?_
    rw [← r2, ← r4, ← r5, ← r6, ← r7]; rfl
  isplitl [H5]; · iexists f5; isplitr; · ipureintro; exact e5
                  iexact H5
  isplitl [H6]; · iexists f6; isplitr; · ipureintro; exact e6
                  iexact H6
  iexists f7; isplitr; · ipureintro; exact e7
  iexact H7

end Cert.KernelIdeal.Hand

end
-- ==== Proof.Launch.lean ====
module

public import proofs.«01_k».proof.Proof.Body
public import Idealize.ShloMosaic.Lib.Pipeline.FrameSuffix
public import Idealize.ShloMosaic.Lib.Pipeline.FrameBody
public import Idealize.ShloMosaic.Lib.WordCmp
public import Idealize.ShloMosaic.Lib.WordArith
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F] [∀ e, Nonempty (Elt F e)]

local notation "𝕄" => MT nD τ sig Unit (Elt F) ℕ (UR sig nD τ) ℕ

/-! ## The grid's conditions and the columns of a block -/

/-- The first branch runs at the first point only. -/
theorem cond2_iff : ∀ t : Fin cfg0.N, k0_cond2 (grid0.coords t) = 1#1 ↔ t.val = 0 := by decide +kernel
/-- The second branch runs at every later point. -/
theorem cond3_iff : ∀ t : Fin cfg0.N, k0_cond3 (grid0.coords t) = 1#1 ↔ t.val ≠ 0 := by decide +kernel
/-- At every point one of the two branches stores the output block. -/
theorem idle_never : ∀ i : grid0.Coords, idle0 2 i = false := by decide +kernel
/-- The grid's one coordinate at a point is the point's position. -/
theorem coords_zero : ∀ t : Fin cfg0.N, ((grid0.coords t) 0).val = t.val := by decide +kernel
/-- How many columns of the block a point's fetch moves. -/
theorem xsize_one : ∀ t : Fin cfg0.N, win0_1.xsize (grid0.coords t) 1 = if t.val = 48 then 1696 else 2048 := by decide +kernel
/-- A fetch moves every row. -/
theorem xsize_zero : ∀ t : Fin cfg0.N, win0_1.xsize (grid0.coords t) 0 = 128 := by decide +kernel

/-- The fetch at a point moves exactly the columns below the vocabulary's size. -/
theorem moved_of_lt (t : Fin cfg0.N) (j : S128x2048.Idx) (h : t.val * 2048 + (j 1).val < 100000) :
    win0_1.moved (grid0.coords t) j = true := by
  have h0 : (j 0).val < 128 := (j 0).isLt
  have h1 : (j 1).val < 2048 := (j 1).isLt
  have ht : t.val < 49 := t.isLt
  rw [Pipeline.Window.moved_iff]
  intro a
  match a with
  | ⟨0, _⟩ => exact lt_of_lt_of_eq h0 (xsize_zero t).symm
  | ⟨1, _⟩ =>
    refine lt_of_lt_of_eq ?_ (xsize_one t).symm
    change (j 1).val < _
    split <;> omega

/-- The column ids of a block. -/
theorem pay13_apply (t : Fin cfg0.N) (j : S128x2048.Idx) :
    k0_pay13 (grid0.coords t) j = BitVec.ofNat 32 (t.val * 2048 + (j 1).val) := by
  have e : k0_pay13 (grid0.coords t) j
      = IntOp.addi (iota .tc S128x2048 32 [1] iota_S128x2048_d1_w32 j) (IntOp.muli (BitVec.ofNat 32 ((grid0.coords t) 0).val) (BitVec.ofNat 32 2048)) := by
    unfold k0_pay13; rfl
  have e' : iota .tc S128x2048 32 [1] iota_S128x2048_d1_w32 j = BitVec.ofNat 32 (0 * S128x2048.size 1 + (j 1).val) := rfl
  rw [e, coords_zero, WordCmp.muli_ofNat, e', WordCmp.addi_ofNat, Nat.zero_mul, Nat.zero_add, Nat.add_comm]

/-- The masked scores read the logits' block below the vocabulary's size only. -/
theorem pay1_congr (t : Fin cfg0.N) (u : FVec F S128x2048 .f32) (L L' : FVec F S128x2048 .f32) (a g : FVec F S128x1 .f32)
    (h : ∀ j : S128x2048.Idx, t.val * 2048 + (j 1).val < 100000 → L j = L' j) :
    k0_pay1 (k0_pay13 (grid0.coords t)) u L a g = k0_pay1 (k0_pay13 (grid0.coords t)) u L' a g := by
  funext j
  have h1 : (j 1).val < 2048 := (j 1).isLt
  have ht : t.val < 49 := t.isLt
  by_cases hj : t.val * 2048 + (j 1).val < 100000
  · have e := h j hj
    unfold k0_pay1
    simp only [ValueIdx.select_apply]
    congr 1
    change FloatOps.addf (FloatOps.mulf (L j) _) _ = FloatOps.addf (FloatOps.mulf (L' j) _) _
    rw [e]
  · have e : cmpi .slt (k0_pay13 (grid0.coords t)) (broadcast S128x2048 100000#32) j = 0#1 := by
      change IntOp.cmpi .slt (k0_pay13 (grid0.coords t) j) (BitVec.ofNat 32 100000) = 0#1
      rw [pay13_apply, WordCmp.cmpi_slt_ofNat_eq_zero_iff (by omega) (by omega)]
      omega
    unfold k0_pay1
    simp only [ValueIdx.select_apply]
    rw [e]; rfl

variable (m : (ℓ : Loc nD τ sig) → Buf (Elt F) ℓ) (ρ : Dev nD → PrngReg)

/-! ## What the run's buffers hold -/

/-- Position `n` of the grid (taken modulo the grid's length, so that it is one). -/
def pt (n : ℕ) : Fin cfg0.N := ⟨n % 49, Nat.mod_lt _ (by decide)⟩

theorem pt_val (t : Fin cfg0.N) : pt t.val = t := Fin.ext (Nat.mod_eq_of_lt t.isLt)

/-- The temperatures' block. -/
def tblk (c : Dev nD) : FVec F S128x1 .f32 := iblk m c 0 (pt 0)

/-- The logits' block at a point, anything past the array's end. -/
def lblk (c : Dev nD) (t : Fin cfg0.N) : FVec F S128x2048 .f32 :=
  win0_1.fill (grid0.coords t) (fun _ => Classical.arbitrary (Elt F .f32)) (iblk m c 1 t)

/-- The best score so far after position `n`. -/
def best (c : Dev nD) : ℕ → FVec F S128x1 .f32
  | 0 => k0_pay4 (k0_pay13 (grid0.coords (pt 0))) (unif (F := F) (grid0.coords (pt 0)) k0_pay12) (lblk m c (pt 0)) (k0_pay10 (tblk m c)) (k0_pay11 (tblk m c))
  | n + 1 => k0_pay6 (k0_pay13 (grid0.coords (pt (n + 1)))) (unif (F := F) (grid0.coords (pt (n + 1))) k0_pay12) (lblk m c (pt (n + 1)))
      (k0_pay10 (tblk m c)) (k0_pay11 (tblk m c)) (best c n) (best c n)

/-- The column of the best score so far after position `n`. -/
def outv (c : Dev nD) : ℕ → IVec S128x1 32
  | 0 => k0_pay3 (k0_pay13 (grid0.coords (pt 0))) (unif (F := F) (grid0.coords (pt 0)) k0_pay12) (lblk m c (pt 0)) (k0_pay10 (tblk m c)) (k0_pay11 (tblk m c))
  | n + 1 => k0_pay7 (k0_pay13 (grid0.coords (pt (n + 1)))) (unif (F := F) (grid0.coords (pt (n + 1))) k0_pay12) (lblk m c (pt (n + 1)))
      (k0_pay10 (tblk m c)) (k0_pay11 (tblk m c)) (best m c n) (outv c n)

/-- The invariant before position `n`: anything in the scratch buffers before the first point; then the best scores, the
    inverse temperatures, the noise scale and the row bases. -/
def PhiAt (c : Dev nD) : ℕ → sProp 𝕄
  | 0 => Pipeline.ΦA spec0 c
  | n + 1 => iprop((owns (c : Thread nD τ) (Memref.whole cc0_scratch0) fullShare (best m c n)
      ∗ owns (c : Thread nD τ) (Memref.whole cc0_scratch1) fullShare (k0_pay10 (tblk m c))
      ∗ owns (c : Thread nD τ) (Memref.whole cc0_scratch2) fullShare (k0_pay11 (tblk m c))
      ∗ owns (Val := Elt F) (c : Thread nD τ) (Memref.whole cc0_scratch3) fullShare k0_pay12) ∗ ∃ r, prngReg c r)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => lblk m c t
    | ⟨2, _⟩ => outv m c t.val
  Φ k := PhiAt m c k.val
  q _ := fullShare
  owed _ := 0

theorem A_eq (c : Dev nD) (w : Fin cfg0.W) : (dats m 0 c).A w = V m c (Pipeline.arrRef spec0 w) := by dsimp only [dats]

theorem after_two (c : Dev nD) (t : Fin cfg0.N) : (dats m 0 c).after 2 t = outv m c t.val := by dsimp only [dats]

/-- The temperatures' block is the same at every point. -/
theorem iblk_zero (c : Dev nD) (t : Fin cfg0.N) : iblk m c 0 t = tblk m c := rfl

theorem before_zero (c : Dev nD) (t : Fin cfg0.N) (d) : (dats m 0 c).before 0 t d = tblk m c :=
  before0_0_of m (dats m 0 c) (A_eq m c 0) (fun t => by dsimp only [dats]) t d

theorem before_one (c : Dev nD) (t : Fin cfg0.N) (d) :
    (dats m 0 c).before 1 t d = win0_1.fill (grid0.coords t) d (iblk m c 1 t) := by
  rw [Dat.before_fetched _ _ _ (fetch0_1 t)]
  unfold Dat.fetched Dat.blockOf iblk
  rw [A_eq]

theorem before_two (c : Dev nD) (t : Fin cfg0.N) (ht : t.val ≠ 0) (d) :
    (dats m 0 c).before 2 t d = outv m c (t.val - 1) := by
  have hlt : t.val < 49 := t.isLt
  rw [(dats m 0 c).before_out_kept 2 rfl t ht (by
    rw [Bool.eq_false_iff]; intro h; rw [flush0_2] at h; change (t.val - 1) % 49 = 48 at h; omega) (fun i => idle_never i) (fun _ _ => rfl)]
  exact after_two m c _

/-! ## The body's obligation -/

theorem lblk_of_lt (c : Dev nD) (t : Fin cfg0.N) (d : S128x2048.Idx → F .f32) (j : S128x2048.Idx) (h : t.val * 2048 + (j 1).val < 100000) :
    win0_1.fill (grid0.coords t) d (iblk m c 1 t) j = lblk m c t j := by
  unfold lblk Pipeline.Window.fill
  rw [dif_pos (moved_of_lt t j h), dif_pos (moved_of_lt t j h)]

theorem defs₀_row (t : Fin cfg0.N) : defs₀ (F := F) .tc cfg0.body (cfg0.bodyArgs t (cfg0.slots t)) = bodyAt0 t := by
  unfold defs₀; rw [Defs.onTc_tc]

theorem val_castSucc {N : ℕ} {α : Sort*} (S : ℕ → α) (t : Fin N) : S t.castSucc.val = S t.val := rfl
theorem val_succ {N : ℕ} {α : Sort*} (S : ℕ → α) (t : Fin N) : S t.succ.val = S (t.val + 1) := by rw [Fin.val_succ]

theorem Φ_castSucc (c : Dev nD) (t : Fin cfg0.N) : (dats m 0 c).Φ t.castSucc = PhiAt m c t.val := by
  dsimp only [dats]; exact val_castSucc (PhiAt m c) t
theorem Φ_succ (c : Dev nD) (t : Fin cfg0.N) : (dats m 0 c).Φ t.succ = PhiAt m c (t.val + 1) := by
  dsimp only [dats]; exact val_succ (PhiAt m c) t

/-- The body at a point: from the invariant and the staged blocks to the next invariant and the blocks as `dats` states them. -/
theorem sound_body (c : Dev nD) (t : Fin cfg0.N) (d1 : S128x2048.Idx → F .f32) (K : PUnit → sProp 𝕄) :
    iprop(PhiAt m c t.val ∗ owns (c : Thread nD τ) (win0_0.stage (cfg0.slots t 0)) fullShare (tblk m c)
        ∗ owns (c : Thread nD τ) (win0_1.stage (cfg0.slots t 1)) fullShare (win0_1.fill (grid0.coords t) d1 (iblk m c 1 t))
        ∗ (∃ d, owns (c : Thread nD τ) (win0_2.stage (cfg0.slots t 2)) fullShare ((dats m 0 c).before 2 t d))
        ∗ (iprop(PhiAt m c (t.val + 1) ∗ owns (c : Thread nD τ) (win0_0.stage (cfg0.slots t 0)) fullShare (tblk m c)
            ∗ owns (c : Thread nD τ) (win0_1.stage (cfg0.slots t 1)) fullShare (win0_1.fill (grid0.coords t) d1 (iblk m c 1 t))
            ∗ owns (Val := Elt F) (c : Thread nD τ) (win0_2.stage (cfg0.slots t 2)) fullShare (outv m c t.val)) -∗ K ⟨⟩))
      ⊢ wp frame (wpE (defs₀ (F := F)) Variants.none c none) Set.univ (bodyAt0 t) K := by
  have hp := fun u a g => pay1_congr t u (win0_1.fill (grid0.coords t) d1 (iblk m c 1 t)) (lblk m c t) a g (lblk_of_lt m c t d1)
  unfold bodyAt0
  by_cases h0 : t.val = 0
  · have ht : t = pt 0 := by rw [← h0, pt_val]
    have eb : best m c 0 = k0_pay4 (k0_pay13 (grid0.coords t)) (unif (F := F) (grid0.coords t) k0_pay12) (win0_1.fill (grid0.coords t) d1 (iblk m c 1 t)) (k0_pay10 (tblk m c)) (k0_pay11 (tblk m c)) := by
      unfold best k0_pay4 k0_pay2; rw [hp, ht]
    have eo : outv m c 0 = k0_pay3 (k0_pay13 (grid0.coords t)) (unif (F := F) (grid0.coords t) k0_pay12) (win0_1.fill (grid0.coords t) d1 (iblk m c 1 t)) (k0_pay10 (tblk m c)) (k0_pay11 (tblk m c)) := by
      unfold outv k0_pay3 k0_pay2; rw [hp, ht]
    rw [h0, eo]
    rw [show PhiAt m c (0 + 1) = iprop((owns (c : Thread nD τ) (Memref.whole cc0_scratch0) fullShare (best m c 0)
      ∗ owns (c : Thread nD τ) (Memref.whole cc0_scratch1) fullShare (k0_pay10 (tblk m c))
      ∗ owns (c : Thread nD τ) (Memref.whole cc0_scratch2) fullShare (k0_pay11 (tblk m c))
      ∗ owns (Val := Elt F) (c : Thread nD τ) (Memref.whole cc0_scratch3) fullShare k0_pay12) ∗ ∃ r, prngReg c r) from rfl, eb]
    rw [show PhiAt m c 0 = Pipeline.ΦA spec0 c from rfl]
    unfold Pipeline.ΦA
    rw [scopedRest0_eq]
    simp only [← owns_whole]
    iintro ⟨⟨⟨⟨%f0, S0⟩, ⟨%f1, S1⟩, ⟨%f2, S2⟩, ⟨%f3, S3⟩⟩, Hg⟩, H0, H1, ⟨%d, H2⟩, Hk⟩
    iapply (body_first c (grid0.coords t) ((cond2_iff t).mpr h0) (fun h => (cond3_iff t).mp h h0))
    isplitl [H0]; · iexact H0
    isplitl [H1]; · iexact H1
    isplitl [H2]; · iexists _; iexact H2
    isplitl [S0]; · iexists f0; iexact S0
    isplitl [S1]; · iexists f1; iexact S1
    isplitl [S2]; · iexists f2; iexact S2
    isplitl [S3]; · iexists f3; iexact S3
    iintro ⟨H0, H1, H2, S0, S1, S2, S3⟩
    iapply Hk
    isplitl [S0 S1 S2 S3 Hg]
    · isplitl [S0 S1 S2 S3]
      · isplitl [S0]; · iexact S0
        isplitl [S1]; · iexact S1
        isplitl [S2]; · iexact S2
        iexact S3
      iexact Hg
    isplitl [H0]; · iexact H0
    isplitl [H1]; · iexact H1
    iexact H2
  · obtain ⟨n, hn⟩ : ∃ n, t.val = n + 1 := ⟨t.val - 1, by omega⟩
    have ht : t = pt (n + 1) := by rw [← hn, pt_val]
    have eb : best m c (n + 1) = k0_pay6 (k0_pay13 (grid0.coords t)) (unif (F := F) (grid0.coords t) k0_pay12) (win0_1.fill (grid0.coords t) d1 (iblk m c 1 t))
        (k0_pay10 (tblk m c)) (k0_pay11 (tblk m c)) (best m c n) (best m c n) := by
      rw [best]; unfold k0_pay6 k0_pay5 k0_pay2; rw [hp, ht]
    have eo : outv m c (n + 1) = k0_pay7 (k0_pay13 (grid0.coords t)) (unif (F := F) (grid0.coords t) k0_pay12) (win0_1.fill (grid0.coords t) d1 (iblk m c 1 t))
        (k0_pay10 (tblk m c)) (k0_pay11 (tblk m c)) (best m c n) (outv m c n) := by
      rw [outv]; unfold k0_pay7 k0_pay5 k0_pay3 k0_pay2; rw [hp, ht]
    simp only [before_two m c t h0]
    rw [hn, eo, Nat.add_sub_cancel]
    rw [show PhiAt m c (n + 1 + 1) = iprop((owns (c : Thread nD τ) (Memref.whole cc0_scratch0) fullShare (best m c (n + 1))
      ∗ owns (c : Thread nD τ) (Memref.whole cc0_scratch1) fullShare (k0_pay10 (tblk m c))
      ∗ owns (c : Thread nD τ) (Memref.whole cc0_scratch2) fullShare (k0_pay11 (tblk m c))
      ∗ owns (Val := Elt F) (c : Thread nD τ) (Memref.whole cc0_scratch3) fullShare k0_pay12) ∗ ∃ r, prngReg c r) from rfl, eb]
    rw [show PhiAt m c (n + 1) = iprop((owns (c : Thread nD τ) (Memref.whole cc0_scratch0) fullShare (best m c n)
      ∗ owns (c : Thread nD τ) (Memref.whole cc0_scratch1) fullShare (k0_pay10 (tblk m c))
      ∗ owns (c : Thread nD τ) (Memref.whole cc0_scratch2) fullShare (k0_pay11 (tblk m c))
      ∗ owns (Val := Elt F) (c : Thread nD τ) (Memref.whole cc0_scratch3) fullShare k0_pay12) ∗ ∃ r, prngReg c r) from rfl]
    iintro ⟨⟨⟨S0, S1, S2, S3⟩, Hg⟩, H0, H1, ⟨%d, H2⟩, Hk⟩
    iapply (body_next c (grid0.coords t) (fun h => h0 ((cond2_iff t).mp h)) ((cond3_iff t).mpr h0))
    isplitl [H1]; · iexact H1
    isplitl [H2]; · iexact H2
    isplitl [S0]; · iexact S0
    isplitl [S1]; · iexact S1
    isplitl [S2]; · iexact S2
    isplitl [S3]; · iexact S3
    iintro ⟨H1, H2, S0, S1, S2, S3⟩
    iapply Hk
    isplitl [S0 S1 S2 S3 Hg]
    · isplitl [S0 S1 S2 S3]
      · isplitl [S0]; · iexact S0
        isplitl [S1]; · iexact S1
        isplitl [S2]; · iexact S2
        iexact S3
      iexact Hg
    isplitl [H0]; · iexact H0
    isplitl [H1]; · iexact H1
    iexact H2

/-- The library's body obligation, from `sound_body`. -/
theorem body_obligation (c : Dev nD) : BodyObligationLoose (dats m 0 c) (defs₀ (F := F)) Variants.none () Set.univ := fun t => by
  rw [bigSep_W0, bigSep_W0, defs₀_row]
  have hi : cfg0.idle 2 (cfg0.grid.coords t) = false := idle_never _
  simp only [show idle0 2 (grid0.coords t) = false from hi]
  rw [Φ_succ, Φ_castSucc, show (dats m 0 c).owesAt () t.succ = (dats m 0 c).owesAt () t.castSucc from rfl]
  iintro ⟨HΦ, Ho, ⟨%d0, H0⟩, ⟨%d1, H1⟩, H2⟩
  rw [before_zero, before_one]
  iapply (sound_body m c t d1)
  isplitl [HΦ]; · iexact HΦ
  isplitl [H0]; · iexact H0
  isplitl [H1]; · iexact H1
  isplitl [H2]; · iexact H2
  iintro ⟨HΦ, H0, H1, H2⟩
  isplitl [HΦ]; · iexact HΦ
  isplitl [Ho]; · iexact Ho
  isplitl [H0]; · iexact H0
  isplitl [H1]
  · iexists d1
    change _ ⊢ owns (c : Thread nD τ) (win0_1.stage (cfg0.slots t 1)) fullShare (win0_1.fill (grid0.coords t) d1 (win0_1.cut (grid0.coords t) (lblk m c t)))
    rw [show win0_1.cut (grid0.coords t) (lblk m c t) = iblk m c 1 t from win0_1.cut_fill _ _ _]
    try iexact H1
  iexact H2

/-! ## The launch -/

set_option backward.isDefEq.respectTransparency.types false in
/-- From any memory with zero counters every weakly fair execution of @main terminates, the arrays as `dats` computes them
    and every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m)
    (hin := fun c => .rfl)
    (hout := fun c => by
      rw [show (dats m 0 c).Φ (Fin.last cfg0.N) = PhiAt m c (48 + 1) from rfl]
      unfold PhiAt Pipeline.ΦA
      rw [scopedRest0_eq]
      simp only [owns_whole]
      iintro ⟨⟨S0, S1, S2, S3⟩, Hg⟩
      isplitl [S0 S1 S2 S3]
      · isplitl [S0]; · iexists _; iexact S0
        isplitl [S1]; · iexists _; iexact S1
        isplitl [S2]; · iexists _; iexact S2
        iexists _; iexact S3
      iexact Hg)

/-- From any memory with zero counters every weakly fair execution of @main terminates, the arguments unchanged and every
    counter at zero. -/
theorem run_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).1 1).trans (((dats m 0 c).arrAt_in 1 rfl _).trans ((A_eq m c 1).trans (V_main_arg0 m c))),
      ((h.1 c).2 main_arg1 (Pipeline.mem_restRefs_of main_arg1 (by decide) (by decide))).trans (W_main_arg1 m (dats m) c)⟩, h.2⟩)
    (run_main m ρ)

end Cert.KernelIdeal.Hand

end
-- ==== Proof.Ref.lean ====
module

public import proofs.«01_k».proof.ReferenceIdeal
public import Idealize.ShloMosaic.Lib.StableHlo.Run
public import Idealize.ShloMosaic.Lib.StableHlo.RunRead
public import Idealize.ShloMosaic.Lib.Quiescent

/-!
  The reference program as ONE straight line of host operations, cut into named stretches: what comes before the
  random words (`opsHead`), the five groups of four rounds that make them (`opsKey`, `opsGroup0` … `opsGroup4`), and what comes
  after (`opsNoise`, `opsPick`, `opsChoose`); and the program's run: it terminates with every buffer at the fold of these operations.
-/

@[expose] public section

set_option maxRecDepth 20000

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-- The operations before the random words: the temperatures made safe, the softmax, the key and the counters. -/
def opsHead : List (HloOp τ sig (Elt F)) := [
  StableHlo.nullary main_cst (constant S_ .f32 0x2EDBE6FF#32),
  StableHlo.unary main_cst main_v0 (broadcastInDim S128 ![] bcast_S_S128 : (⟨S_, .f32⟩ : BufTy).Contents (Elt F) → (⟨S128, .f32⟩ : BufTy).Contents (Elt F)),
  StableHlo.binary main_arg1 main_v0 main_v1 (cmpf .ole : (⟨S128, .f32⟩ : BufTy).Contents (Elt F) → (⟨S128, .f32⟩ : BufTy).Contents (Elt F) → (⟨S128, .i1⟩ : BufTy).Contents (Elt F)),
  StableHlo.nullary main_cst_0 (constant S_ .f32 0x3F800000#32),
  StableHlo.unary main_cst_0 main_v2 (broadcastInDim S128 ![] bcast_S_S128 : (⟨S_, .f32⟩ : BufTy).Contents (Elt F) → (⟨S128, .f32⟩ : BufTy).Contents (Elt F)),
  StableHlo.TRef.ternary (.of main_v1) (.of main_v2) (.of main_arg1) (.of main_v3) select,
  StableHlo.unary main_v3 main_v4 (broadcastInDim S128x1 ![0] bcast_S128_S128x1_0 : (⟨S128, .f32⟩ : BufTy).Contents (Elt F) → (⟨S128x1, .f32⟩ : BufTy).Contents (Elt F)),
  StableHlo.unary main_v4 main_v5 (broadcastInDim S128x100000 ![0, 1] bcast_S128x1_S128x100000_0_1 : (⟨S128x1, .f32⟩ : BufTy).Contents (Elt F) → (⟨S128x100000, .f32⟩ : BufTy).Contents (Elt F)),
  StableHlo.binary main_arg0 main_v5 main_v6 (Host.divf : (⟨S128x100000, .f32⟩ : BufTy).Contents (Elt F) → (⟨S128x100000, .f32⟩ : BufTy).Contents (Elt F) → (⟨S128x100000, .f32⟩ : BufTy).Contents (Elt F)),
  StableHlo.nullary main_cst_1 (constant S_ .f32 0xFF800000#32),
  StableHlo.binary main_v6 main_cst_1 main_v7 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
  StableHlo.nullary main_cst_2 (constant S_ .f32 0xFF800000#32),
  StableHlo.unary main_cst_2 main_v8 (broadcastInDim S128 ![] bcast_S_S128 : (⟨S_, .f32⟩ : BufTy).Contents (Elt F) → (⟨S128, .f32⟩ : BufTy).Contents (Elt F)),
  StableHlo.binary main_v8 main_v7 main_v9 (maximumf : (⟨S128, .f32⟩ : BufTy).Contents (Elt F) → (⟨S128, .f32⟩ : BufTy).Contents (Elt F) → (⟨S128, .f32⟩ : BufTy).Contents (Elt F)),
  StableHlo.unary main_v9 main_v10 (broadcastInDim S128x1 ![0] bcast_S128_S128x1_0 : (⟨S128, .f32⟩ : BufTy).Contents (Elt F) → (⟨S128x1, .f32⟩ : BufTy).Contents (Elt F)),
  StableHlo.unary main_v10 main_v11 (broadcastInDim S128x100000 ![0, 1] bcast_S128x1_S128x100000_0_1 : (⟨S128x1, .f32⟩ : BufTy).Contents (Elt F) → (⟨S128x100000, .f32⟩ : BufTy).Contents (Elt F)),
  StableHlo.binary main_v6 main_v11 main_v12 (subf : (⟨S128x100000, .f32⟩ : BufTy).Contents (Elt F) → (⟨S128x100000, .f32⟩ : BufTy).Contents (Elt F) → (⟨S128x100000, .f32⟩ : BufTy).Contents (Elt F)),
  StableHlo.unary main_v12 main_v13 (Host.exp : (⟨S128x100000, .f32⟩ : BufTy).Contents (Elt F) → (⟨S128x100000, .f32⟩ : BufTy).Contents (Elt F)),
  StableHlo.nullary main_cst_3 (constant S_ .f32 0x00000000#32),
  StableHlo.binary main_v13 main_cst_3 main_v14 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
  StableHlo.unary main_v14 main_v15 (broadcastInDim S128x1 ![0] bcast_S128_S128x1_0 : (⟨S128, .f32⟩ : BufTy).Contents (Elt F) → (⟨S128x1, .f32⟩ : BufTy).Contents (Elt F)),
  StableHlo.unary main_v15 main_v16 (broadcastInDim S128x100000 ![0, 1] bcast_S128x1_S128x100000_0_1 : (⟨S128x1, .f32⟩ : BufTy).Contents (Elt F) → (⟨S128x100000, .f32⟩ : BufTy).Contents (Elt F)),
  StableHlo.binary main_v13 main_v16 main_v17 (Host.divf : (⟨S128x100000, .f32⟩ : BufTy).Contents (Elt F) → (⟨S128x100000, .f32⟩ : BufTy).Contents (Elt F) → (⟨S128x100000, .f32⟩ : BufTy).Contents (Elt F)),
  StableHlo.nullary main_c (constantI S_ 32 12345#32),
  StableHlo.nullary main_c_4 (constantI S_ 32 32#32),
  StableHlo.binary main_c main_c_4 main_v18 (Host.shrui : (⟨S_, .i32⟩ : BufTy).Contents (Elt F) → (⟨S_, .i32⟩ : BufTy).Contents (Elt F) → (⟨S_, .i32⟩ : BufTy).Contents (Elt F)),
  StableHlo.unary main_v18 main_v19 (id : (⟨S_, .i32⟩ : BufTy).Contents (Elt F) → (⟨S_, .i32⟩ : BufTy).Contents (Elt F)),
  StableHlo.unary main_v19 main_v20 (broadcastInDim S1 ![] bcast_S_S1 : (⟨S_, .i32⟩ : BufTy).Contents (Elt F) → (⟨S1, .i32⟩ : BufTy).Contents (Elt F)),
  StableHlo.nullary main_c_5 (constantI S_ 32 4294967295#32),
  StableHlo.binary main_c main_c_5 main_v21 (andi : (⟨S_, .i32⟩ : BufTy).Contents (Elt F) → (⟨S_, .i32⟩ : BufTy).Contents (Elt F) → (⟨S_, .i32⟩ : BufTy).Contents (Elt F)),
  StableHlo.unary main_v21 main_v22 (id : (⟨S_, .i32⟩ : BufTy).Contents (Elt F) → (⟨S_, .i32⟩ : BufTy).Contents (Elt F)),
  StableHlo.unary main_v22 main_v23 (broadcastInDim S1 ![] bcast_S_S1 : (⟨S_, .i32⟩ : BufTy).Contents (Elt F) → (⟨S1, .i32⟩ : BufTy).Contents (Elt F)),
  StableHlo.binary main_v20 main_v23 main_v24 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.TRef.nullary (.of main_call1_cst) (constant S_ .f32 0x00000000#32),
  StableHlo.TRef.nullary (.of main_call1_cst_0) (constant S_ .f32 0x3F800000#32),
  StableHlo.TRef.unary (.of main_call1_cst) (.of main_call1_call0_v0) id,
  StableHlo.TRef.unary (.of main_call1_cst_0) (.of main_call1_call0_v1) id,
  StableHlo.TRef.unary (.of main_call1_call0_v0) (.of main_call1_call0_v2) (broadcastInDim S1x1 ![] bcast_S_S1x1),
  StableHlo.TRef.unary (.of main_call1_call0_v1) (.of main_call1_call0_v3) (broadcastInDim S1x1 ![] bcast_S_S1x1),
  StableHlo.TRef.unary (.of main_v24) (.of main_call1_call0_v4) (extractStridedSlice S1 ![0] · slices_S2_S1_0),
  StableHlo.TRef.reshape (.of main_call1_call0_v4) (.of main_call1_call0_v5) (rfl : (.i32 : EltTy) = .i32) shapeCasts_S1_S_,
  StableHlo.TRef.unary (.of main_v24) (.of main_call1_call0_v6) (extractStridedSlice S1 ![1] · slices_S2_S1_1),
  StableHlo.TRef.reshape (.of main_call1_call0_v6) (.of main_call1_call0_v7) (rfl : (.i32 : EltTy) = .i32) shapeCasts_S1_S_,
  StableHlo.TRef.nullary (.of main_call1_call0_v8) (iotaInDim S128x100000 64 0),
  StableHlo.TRef.nullary (.of main_call1_call0_v9) (iotaInDim S128x100000 64 1),
  StableHlo.TRef.nullary (.of main_call1_call0_c) (constantI S_ 64 100000#64),
  StableHlo.TRef.unary (.of main_call1_call0_c) (.of main_call1_call0_v10) (broadcastInDim S128x100000 ![] bcast_S_S128x100000),
  StableHlo.TRef.binary (.of main_call1_call0_v10) (.of main_call1_call0_v8) (.of main_call1_call0_v11) muli,
  StableHlo.TRef.nullary (.of main_call1_call0_c_0) (constantI S_ 64 1#64),
  StableHlo.TRef.unary (.of main_call1_call0_c_0) (.of main_call1_call0_v12) (broadcastInDim S128x100000 ![] bcast_S_S128x100000),
  StableHlo.TRef.binary (.of main_call1_call0_v12) (.of main_call1_call0_v9) (.of main_call1_call0_v13) muli,
  StableHlo.TRef.binary (.of main_call1_call0_v11) (.of main_call1_call0_v13) (.of main_call1_call0_v14) addi,
  StableHlo.TRef.nullary (.of main_call1_call0_c_1) (constantI S_ 64 32#64),
  StableHlo.TRef.unary (.of main_call1_call0_c_1) (.of main_call1_call0_v15) (broadcastInDim S128x100000 ![] bcast_S_S128x100000),
  StableHlo.TRef.binary (.of main_call1_call0_v14) (.of main_call1_call0_v15) (.of main_call1_call0_v16) Host.shrui,
  StableHlo.TRef.unary (.of main_call1_call0_v14) (.of main_call1_call0_v17) (trunci 32 · natLt_32_64),
  StableHlo.TRef.unary (.of main_call1_call0_v16) (.of main_call1_call0_v18) (trunci 32 · natLt_32_64)]

/-- The references that `opsHead` writes, in order. -/
def opsHead_w : List (Ref sig .tc) := [
  main_cst, main_v0, main_v1, main_cst_0, main_v2, main_v3, main_v4, main_v5, main_v6, main_cst_1, main_v7, main_cst_2, main_v8, main_v9, main_v10, main_v11, main_v12, main_v13, main_cst_3, main_v14, main_v15, main_v16, main_v17, main_c, main_c_4, main_v18, main_v19, main_v20, main_c_5, main_v21, main_v22, main_v23, main_v24, main_call1_cst, main_call1_cst_0, main_call1_call0_v0, main_call1_call0_v1, main_call1_call0_v2, main_call1_call0_v3, main_call1_call0_v4, main_call1_call0_v5, main_call1_call0_v6, main_call1_call0_v7, main_call1_call0_v8, main_call1_call0_v9, main_call1_call0_c, main_call1_call0_v10, main_call1_call0_v11, main_call1_call0_c_0, main_call1_call0_v12, main_call1_call0_v13, main_call1_call0_v14, main_call1_call0_c_1, main_call1_call0_v15, main_call1_call0_v16, main_call1_call0_v17, main_call1_call0_v18]

theorem opsHead_writes : (opsHead (F := F)).map HloOp.writes = opsHead_w.map fun w => {Proc.devRef (τ := τ) .tc w} := rfl

/-- The third key word, and the key added to the two counter halves. -/
def opsKey : List (HloOp τ sig (Elt F)) := [
  StableHlo.TRef.binary (.of main_call1_call0_v5) (.of main_call1_call0_v7) (.of main_call1_call0_call0_v0) xori,
  StableHlo.TRef.nullary (.of main_call1_call0_call0_c) (constantI S_ 32 466688986#32),
  StableHlo.TRef.binary (.of main_call1_call0_call0_v0) (.of main_call1_call0_call0_c) (.of main_call1_call0_call0_v1) xori,
  StableHlo.TRef.unary (.of main_call1_call0_v5) (.of main_call1_call0_call0_v2) (broadcastInDim S128x100000 ![] bcast_S_S128x100000),
  StableHlo.TRef.binary (.of main_call1_call0_v18) (.of main_call1_call0_call0_v2) (.of main_call1_call0_call0_v3) addi,
  StableHlo.TRef.unary (.of main_call1_call0_v7) (.of main_call1_call0_call0_v4) (broadcastInDim S128x100000 ![] bcast_S_S128x100000),
  StableHlo.TRef.binary (.of main_call1_call0_v17) (.of main_call1_call0_call0_v4) (.of main_call1_call0_call0_v5) addi]

/-- The references that `opsKey` writes, in order. -/
def opsKey_w : List (Ref sig .tc) := [
  main_call1_call0_call0_v0, main_call1_call0_call0_c, main_call1_call0_call0_v1, main_call1_call0_call0_v2, main_call1_call0_call0_v3, main_call1_call0_call0_v4, main_call1_call0_call0_v5]

theorem opsKey_writes : (opsKey (F := F)).map HloOp.writes = opsKey_w.map fun w => {Proc.devRef (τ := τ) .tc w} := rfl

/-- Rounds 1 … 4 of the random words, and the key injection after them. -/
def opsGroup0 : List (HloOp τ sig (Elt F)) := [
  StableHlo.TRef.binary (.of main_call1_call0_call0_v3) (.of main_call1_call0_call0_v5) (.of main_call1_call0_call0_v6) addi,
  StableHlo.TRef.nullary (.of main_call1_call0_call0_c_0) (constantI S_ 32 13#32),
  StableHlo.TRef.unary (.of main_call1_call0_call0_c_0) (.of main_call1_call0_call0_v7) (broadcastInDim S128x100000 ![] bcast_S_S128x100000),
  StableHlo.TRef.binary (.of main_call1_call0_call0_v5) (.of main_call1_call0_call0_v7) (.of main_call1_call0_call0_v8) Host.shli,
  StableHlo.TRef.nullary (.of main_call1_call0_call0_c_1) (constantI S_ 32 19#32),
  StableHlo.TRef.unary (.of main_call1_call0_call0_c_1) (.of main_call1_call0_call0_v9) (broadcastInDim S128x100000 ![] bcast_S_S128x100000),
  StableHlo.TRef.binary (.of main_call1_call0_call0_v5) (.of main_call1_call0_call0_v9) (.of main_call1_call0_call0_v10) Host.shrui,
  StableHlo.TRef.binary (.of main_call1_call0_call0_v8) (.of main_call1_call0_call0_v10) (.of main_call1_call0_call0_v11) ori,
  StableHlo.TRef.binary (.of main_call1_call0_call0_v6) (.of main_call1_call0_call0_v11) (.of main_call1_call0_call0_v12) xori,
  StableHlo.TRef.binary (.of main_call1_call0_call0_v6) (.of main_call1_call0_call0_v12) (.of main_call1_call0_call0_v13) addi,
  StableHlo.TRef.nullary (.of main_call1_call0_call0_c_2) (constantI S_ 32 15#32),
  StableHlo.TRef.unary (.of main_call1_call0_call0_c_2) (.of main_call1_call0_call0_v14) (broadcastInDim S128x100000 ![] bcast_S_S128x100000),
  StableHlo.TRef.binary (.of main_call1_call0_call0_v12) (.of main_call1_call0_call0_v14) (.of main_call1_call0_call0_v15) Host.shli,
  StableHlo.TRef.nullary (.of main_call1_call0_call0_c_3) (constantI S_ 32 17#32),
  StableHlo.TRef.unary (.of main_call1_call0_call0_c_3) (.of main_call1_call0_call0_v16) (broadcastInDim S128x100000 ![] bcast_S_S128x100000),
  StableHlo.TRef.binary (.of main_call1_call0_call0_v12) (.of main_call1_call0_call0_v16) (.of main_call1_call0_call0_v17) Host.shrui,
  StableHlo.TRef.binary (.of main_call1_call0_call0_v15) (.of main_call1_call0_call0_v17) (.of main_call1_call0_call0_v18) ori,
  StableHlo.TRef.binary (.of main_call1_call0_call0_v13) (.of main_call1_call0_call0_v18) (.of main_call1_call0_call0_v19) xori,
  StableHlo.TRef.binary (.of main_call1_call0_call0_v13) (.of main_call1_call0_call0_v19) (.of main_call1_call0_call0_v20) addi,
  StableHlo.TRef.nullary (.of main_call1_call0_call0_c_4) (constantI S_ 32 26#32),
  StableHlo.TRef.unary (.of main_call1_call0_call0_c_4) (.of main_call1_call0_call0_v21) (broadcastInDim S128x100000 ![] bcast_S_S128x100000),
  StableHlo.TRef.binary (.of main_call1_call0_call0_v19) (.of main_call1_call0_call0_v21) (.of main_call1_call0_call0_v22) Host.shli,
  StableHlo.TRef.nullary (.of main_call1_call0_call0_c_5) (constantI S_ 32 6#32),
  StableHlo.TRef.unary (.of main_call1_call0_call0_c_5) (.of main_call1_call0_call0_v23) (broadcastInDim S128x100000 ![] bcast_S_S128x100000),
  StableHlo.TRef.binary (.of main_call1_call0_call0_v19) (.of main_call1_call0_call0_v23) (.of main_call1_call0_call0_v24) Host.shrui,
  StableHlo.TRef.binary (.of main_call1_call0_call0_v22) (.of main_call1_call0_call0_v24) (.of main_call1_call0_call0_v25) ori,
  StableHlo.TRef.binary (.of main_call1_call0_call0_v20) (.of main_call1_call0_call0_v25) (.of main_call1_call0_call0_v26) xori,
  StableHlo.TRef.binary (.of main_call1_call0_call0_v20) (.of main_call1_call0_call0_v26) (.of main_call1_call0_call0_v27) addi,
  StableHlo.TRef.nullary (.of main_call1_call0_call0_c_6) (constantI S_ 32 6#32),
  StableHlo.TRef.unary (.of main_call1_call0_call0_c_6) (.of main_call1_call0_call0_v28) (broadcastInDim S128x100000 ![] bcast_S_S128x100000),
  StableHlo.TRef.binary (.of main_call1_call0_call0_v26) (.of main_call1_call0_call0_v28) (.of main_call1_call0_call0_v29) Host.shli,
  StableHlo.TRef.nullary (.of main_call1_call0_call0_c_7) (constantI S_ 32 26#32),
  StableHlo.TRef.unary (.of main_call1_call0_call0_c_7) (.of main_call1_call0_call0_v30) (broadcastInDim S128x100000 ![] bcast_S_S128x100000),
  StableHlo.TRef.binary (.of main_call1_call0_call0_v26) (.of main_call1_call0_call0_v30) (.of main_call1_call0_call0_v31) Host.shrui,
  StableHlo.TRef.binary (.of main_call1_call0_call0_v29) (.of main_call1_call0_call0_v31) (.of main_call1_call0_call0_v32) ori,
  StableHlo.TRef.binary (.of main_call1_call0_call0_v27) (.of main_call1_call0_call0_v32) (.of main_call1_call0_call0_v33) xori,
  StableHlo.TRef.unary (.of main_call1_call0_v7) (.of main_call1_call0_call0_v34) (broadcastInDim S128x100000 ![] bcast_S_S128x100000),
  StableHlo.TRef.binary (.of main_call1_call0_call0_v27) (.of main_call1_call0_call0_v34) (.of main_call1_call0_call0_v35) addi,
  StableHlo.TRef.unary (.of main_call1_call0_call0_v1) (.of main_call1_call0_call0_v36) (broadcastInDim S128x100000 ![] bcast_S_S128x100000),
  StableHlo.TRef.binary (.of main_call1_call0_call0_v33) (.of main_call1_call0_call0_v36) (.of main_call1_call0_call0_v37) addi,
  StableHlo.TRef.nullary (.of main_call1_call0_call0_c_8) (constantI S_ 32 1#32),
  StableHlo.TRef.unary (.of main_call1_call0_call0_c_8) (.of main_call1_call0_call0_v38) (broadcastInDim S128x100000 ![] bcast_S_S128x100000),
  StableHlo.TRef.binary (.of main_call1_call0_call0_v37) (.of main_call1_call0_call0_v38) (.of main_call1_call0_call0_v39) addi]

/-- The references that `opsGroup0` writes, in order. -/
def opsGroup0_w : List (Ref sig .tc) := [
  main_call1_call0_call0_v6, main_call1_call0_call0_c_0, main_call1_call0_call0_v7, main_call1_call0_call0_v8, main_call1_call0_call0_c_1, main_call1_call0_call0_v9, main_call1_call0_call0_v10, main_call1_call0_call0_v11, main_call1_call0_call0_v12, main_call1_call0_call0_v13, main_call1_call0_call0_c_2, main_call1_call0_call0_v14, main_call1_call0_call0_v15, main_call1_call0_call0_c_3, main_call1_call0_call0_v16, main_call1_call0_call0_v17, main_call1_call0_call0_v18, main_call1_call0_call0_v19, main_call1_call0_call0_v20, main_call1_call0_call0_c_4, main_call1_call0_call0_v21, main_call1_call0_call0_v22, main_call1_call0_call0_c_5, main_call1_call0_call0_v23, main_call1_call0_call0_v24, main_call1_call0_call0_v25, main_call1_call0_call0_v26, main_call1_call0_call0_v27, main_call1_call0_call0_c_6, main_call1_call0_call0_v28, main_call1_call0_call0_v29, main_call1_call0_call0_c_7, main_call1_call0_call0_v30, main_call1_call0_call0_v31, main_call1_call0_call0_v32, main_call1_call0_call0_v33, main_call1_call0_call0_v34, main_call1_call0_call0_v35, main_call1_call0_call0_v36, main_call1_call0_call0_v37, main_call1_call0_call0_c_8, main_call1_call0_call0_v38, main_call1_call0_call0_v39]

theorem opsGroup0_writes : (opsGroup0 (F := F)).map HloOp.writes = opsGroup0_w.map fun w => {Proc.devRef (τ := τ) .tc w} := rfl

/-- Rounds 5 … 8 of the random words, and the key injection after them. -/
def opsGroup1 : List (HloOp τ sig (Elt F)) := [
  StableHlo.TRef.binary (.of main_call1_call0_call0_v35) (.of main_call1_call0_call0_v39) (.of main_call1_call0_call0_v40) addi,
  StableHlo.TRef.nullary (.of main_call1_call0_call0_c_9) (constantI S_ 32 17#32),
  StableHlo.TRef.unary (.of main_call1_call0_call0_c_9) (.of main_call1_call0_call0_v41) (broadcastInDim S128x100000 ![] bcast_S_S128x100000),
  StableHlo.TRef.binary (.of main_call1_call0_call0_v39) (.of main_call1_call0_call0_v41) (.of main_call1_call0_call0_v42) Host.shli,
  StableHlo.TRef.nullary (.of main_call1_call0_call0_c_10) (constantI S_ 32 15#32),
  StableHlo.TRef.unary (.of main_call1_call0_call0_c_10) (.of main_call1_call0_call0_v43) (broadcastInDim S128x100000 ![] bcast_S_S128x100000),
  StableHlo.TRef.binary (.of main_call1_call0_call0_v39) (.of main_call1_call0_call0_v43) (.of main_call1_call0_call0_v44) Host.shrui,
  StableHlo.TRef.binary (.of main_call1_call0_call0_v42) (.of main_call1_call0_call0_v44) (.of main_call1_call0_call0_v45) ori,
  StableHlo.TRef.binary (.of main_call1_call0_call0_v40) (.of main_call1_call0_call0_v45) (.of main_call1_call0_call0_v46) xori,
  StableHlo.TRef.binary (.of main_call1_call0_call0_v40) (.of main_call1_call0_call0_v46) (.of main_call1_call0_call0_v47) addi,
  StableHlo.TRef.nullary (.of main_call1_call0_call0_c_11) (constantI S_ 32 29#32),
  StableHlo.TRef.unary (.of main_call1_call0_call0_c_11) (.of main_call1_call0_call0_v48) (broadcastInDim S128x100000 ![] bcast_S_S128x100000),
  StableHlo.TRef.binary (.of main_call1_call0_call0_v46) (.of main_call1_call0_call0_v48) (.of main_call1_call0_call0_v49) Host.shli,
  StableHlo.TRef.nullary (.of main_call1_call0_call0_c_12) (constantI S_ 32 3#32),
  StableHlo.TRef.unary (.of main_call1_call0_call0_c_12) (.of main_call1_call0_call0_v50) (broadcastInDim S128x100000 ![] bcast_S_S128x100000),
  StableHlo.TRef.binary (.of main_call1_call0_call0_v46) (.of main_call1_call0_call0_v50) (.of main_call1_call0_call0_v51) Host.shrui,
  StableHlo.TRef.binary (.of main_call1_call0_call0_v49) (.of main_call1_call0_call0_v51) (.of main_call1_call0_call0_v52) ori,
  StableHlo.TRef.binary (.of main_call1_call0_call0_v47) (.of main_call1_call0_call0_v52) (.of main_call1_call0_call0_v53) xori,
  StableHlo.TRef.binary (.of main_call1_call0_call0_v47) (.of main_call1_call0_call0_v53) (.of main_call1_call0_call0_v54) addi,
  StableHlo.TRef.nullary (.of main_call1_call0_call0_c_13) (constantI S_ 32 16#32),
  StableHlo.TRef.unary (.of main_call1_call0_call0_c_13) (.of main_call1_call0_call0_v55) (broadcastInDim S128x100000 ![] bcast_S_S128x100000),
  StableHlo.TRef.binary (.of main_call1_call0_call0_v53) (.of main_call1_call0_call0_v55) (.of main_call1_call0_call0_v56) Host.shli,
  StableHlo.TRef.nullary (.of main_call1_call0_call0_c_14) (constantI S_ 32 16#32),
  StableHlo.TRef.unary (.of main_call1_call0_call0_c_14) (.of main_call1_call0_call0_v57) (broadcastInDim S128x100000 ![] bcast_S_S128x100000),
  StableHlo.TRef.binary (.of main_call1_call0_call0_v53) (.of main_call1_call0_call0_v57) (.of main_call1_call0_call0_v58) Host.shrui,
  StableHlo.TRef.binary (.of main_call1_call0_call0_v56) (.of main_call1_call0_call0_v58) (.of main_call1_call0_call0_v59) ori,
  StableHlo.TRef.binary (.of main_call1_call0_call0_v54) (.of main_call1_call0_call0_v59) (.of main_call1_call0_call0_v60) xori,
  StableHlo.TRef.binary (.of main_call1_call0_call0_v54) (.of main_call1_call0_call0_v60) (.of main_call1_call0_call0_v61) addi,
  StableHlo.TRef.nullary (.of main_call1_call0_call0_c_15) (constantI S_ 32 24#32),
  StableHlo.TRef.unary (.of main_call1_call0_call0_c_15) (.of main_call1_call0_call0_v62) (broadcastInDim S128x100000 ![] bcast_S_S128x100000),
  StableHlo.TRef.binary (.of main_call1_call0_call0_v60) (.of main_call1_call0_call0_v62) (.of main_call1_call0_call0_v63) Host.shli,
  StableHlo.TRef.nullary (.of main_call1_call0_call0_c_16) (constantI S_ 32 8#32),
  StableHlo.TRef.unary (.of main_call1_call0_call0_c_16) (.of main_call1_call0_call0_v64) (broadcastInDim S128x100000 ![] bcast_S_S128x100000),
  StableHlo.TRef.binary (.of main_call1_call0_call0_v60) (.of main_call1_call0_call0_v64) (.of main_call1_call0_call0_v65) Host.shrui,
  StableHlo.TRef.binary (.of main_call1_call0_call0_v63) (.of main_call1_call0_call0_v65) (.of main_call1_call0_call0_v66) ori,
  StableHlo.TRef.binary (.of main_call1_call0_call0_v61) (.of main_call1_call0_call0_v66) (.of main_call1_call0_call0_v67) xori,
  StableHlo.TRef.unary (.of main_call1_call0_call0_v1) (.of main_call1_call0_call0_v68) (broadcastInDim S128x100000 ![] bcast_S_S128x100000),
  StableHlo.TRef.binary (.of main_call1_call0_call0_v61) (.of main_call1_call0_call0_v68) (.of main_call1_call0_call0_v69) addi,
  StableHlo.TRef.unary (.of main_call1_call0_v5) (.of main_call1_call0_call0_v70) (broadcastInDim S128x100000 ![] bcast_S_S128x100000),
  StableHlo.TRef.binary (.of main_call1_call0_call0_v67) (.of main_call1_call0_call0_v70) (.of main_call1_call0_call0_v71) addi,
  StableHlo.TRef.nullary (.of main_call1_call0_call0_c_17) (constantI S_ 32 2#32),
  StableHlo.TRef.unary (.of main_call1_call0_call0_c_17) (.of main_call1_call0_call0_v72) (broadcastInDim S128x100000 ![] bcast_S_S128x100000),
  StableHlo.TRef.binary (.of main_call1_call0_call0_v71) (.of main_call1_call0_call0_v72) (.of main_call1_call0_call0_v73) addi]

/-- The references that `opsGroup1` writes, in order. -/
def opsGroup1_w : List (Ref sig .tc) := [
  main_call1_call0_call0_v40, main_call1_call0_call0_c_9, main_call1_call0_call0_v41, main_call1_call0_call0_v42, main_call1_call0_call0_c_10, main_call1_call0_call0_v43, main_call1_call0_call0_v44, main_call1_call0_call0_v45, main_call1_call0_call0_v46, main_call1_call0_call0_v47, main_call1_call0_call0_c_11, main_call1_call0_call0_v48, main_call1_call0_call0_v49, main_call1_call0_call0_c_12, main_call1_call0_call0_v50, main_call1_call0_call0_v51, main_call1_call0_call0_v52, main_call1_call0_call0_v53, main_call1_call0_call0_v54, main_call1_call0_call0_c_13, main_call1_call0_call0_v55, main_call1_call0_call0_v56, main_call1_call0_call0_c_14, main_call1_call0_call0_v57, main_call1_call0_call0_v58, main_call1_call0_call0_v59, main_call1_call0_call0_v60, main_call1_call0_call0_v61, main_call1_call0_call0_c_15, main_call1_call0_call0_v62, main_call1_call0_call0_v63, main_call1_call0_call0_c_16, main_call1_call0_call0_v64, main_call1_call0_call0_v65, main_call1_call0_call0_v66, main_call1_call0_call0_v67, main_call1_call0_call0_v68, main_call1_call0_call0_v69, main_call1_call0_call0_v70, main_call1_call0_call0_v71, main_call1_call0_call0_c_17, main_call1_call0_call0_v72, main_call1_call0_call0_v73]

theorem opsGroup1_writes : (opsGroup1 (F := F)).map HloOp.writes = opsGroup1_w.map fun w => {Proc.devRef (τ := τ) .tc w} := rfl

/-- Rounds 9 … 12 of the random words, and the key injection after them. -/
def opsGroup2 : List (HloOp τ sig (Elt F)) := [
  StableHlo.TRef.binary (.of main_call1_call0_call0_v69) (.of main_call1_call0_call0_v73) (.of main_call1_call0_call0_v74) addi,
  StableHlo.TRef.nullary (.of main_call1_call0_call0_c_18) (constantI S_ 32 13#32),
  StableHlo.TRef.unary (.of main_call1_call0_call0_c_18) (.of main_call1_call0_call0_v75) (broadcastInDim S128x100000 ![] bcast_S_S128x100000),
  StableHlo.TRef.binary (.of main_call1_call0_call0_v73) (.of main_call1_call0_call0_v75) (.of main_call1_call0_call0_v76) Host.shli,
  StableHlo.TRef.nullary (.of main_call1_call0_call0_c_19) (constantI S_ 32 19#32),
  StableHlo.TRef.unary (.of main_call1_call0_call0_c_19) (.of main_call1_call0_call0_v77) (broadcastInDim S128x100000 ![] bcast_S_S128x100000),
  StableHlo.TRef.binary (.of main_call1_call0_call0_v73) (.of main_call1_call0_call0_v77) (.of main_call1_call0_call0_v78) Host.shrui,
  StableHlo.TRef.binary (.of main_call1_call0_call0_v76) (.of main_call1_call0_call0_v78) (.of main_call1_call0_call0_v79) ori,
  StableHlo.TRef.binary (.of main_call1_call0_call0_v74) (.of main_call1_call0_call0_v79) (.of main_call1_call0_call0_v80) xori,
  StableHlo.TRef.binary (.of main_call1_call0_call0_v74) (.of main_call1_call0_call0_v80) (.of main_call1_call0_call0_v81) addi,
  StableHlo.TRef.nullary (.of main_call1_call0_call0_c_20) (constantI S_ 32 15#32),
  StableHlo.TRef.unary (.of main_call1_call0_call0_c_20) (.of main_call1_call0_call0_v82) (broadcastInDim S128x100000 ![] bcast_S_S128x100000),
  StableHlo.TRef.binary (.of main_call1_call0_call0_v80) (.of main_call1_call0_call0_v82) (.of main_call1_call0_call0_v83) Host.shli,
  StableHlo.TRef.nullary (.of main_call1_call0_call0_c_21) (constantI S_ 32 17#32),
  StableHlo.TRef.unary (.of main_call1_call0_call0_c_21) (.of main_call1_call0_call0_v84) (broadcastInDim S128x100000 ![] bcast_S_S128x100000),
  StableHlo.TRef.binary (.of main_call1_call0_call0_v80) (.of main_call1_call0_call0_v84) (.of main_call1_call0_call0_v85) Host.shrui,
  StableHlo.TRef.binary (.of main_call1_call0_call0_v83) (.of main_call1_call0_call0_v85) (.of main_call1_call0_call0_v86) ori,
  StableHlo.TRef.binary (.of main_call1_call0_call0_v81) (.of main_call1_call0_call0_v86) (.of main_call1_call0_call0_v87) xori,
  StableHlo.TRef.binary (.of main_call1_call0_call0_v81) (.of main_call1_call0_call0_v87) (.of main_call1_call0_call0_v88) addi,
  StableHlo.TRef.nullary (.of main_call1_call0_call0_c_22) (constantI S_ 32 26#32),
  StableHlo.TRef.unary (.of main_call1_call0_call0_c_22) (.of main_call1_call0_call0_v89) (broadcastInDim S128x100000 ![] bcast_S_S128x100000),
  StableHlo.TRef.binary (.of main_call1_call0_call0_v87) (.of main_call1_call0_call0_v89) (.of main_call1_call0_call0_v90) Host.shli,
  StableHlo.TRef.nullary (.of main_call1_call0_call0_c_23) (constantI S_ 32 6#32),
  StableHlo.TRef.unary (.of main_call1_call0_call0_c_23) (.of main_call1_call0_call0_v91) (broadcastInDim S128x100000 ![] bcast_S_S128x100000),
  StableHlo.TRef.binary (.of main_call1_call0_call0_v87) (.of main_call1_call0_call0_v91) (.of main_call1_call0_call0_v92) Host.shrui,
  StableHlo.TRef.binary (.of main_call1_call0_call0_v90) (.of main_call1_call0_call0_v92) (.of main_call1_call0_call0_v93) ori,
  StableHlo.TRef.binary (.of main_call1_call0_call0_v88) (.of main_call1_call0_call0_v93) (.of main_call1_call0_call0_v94) xori,
  StableHlo.TRef.binary (.of main_call1_call0_call0_v88) (.of main_call1_call0_call0_v94) (.of main_call1_call0_call0_v95) addi,
  StableHlo.TRef.nullary (.of main_call1_call0_call0_c_24) (constantI S_ 32 6#32),
  StableHlo.TRef.unary (.of main_call1_call0_call0_c_24) (.of main_call1_call0_call0_v96) (broadcastInDim S128x100000 ![] bcast_S_S128x100000),
  StableHlo.TRef.binary (.of main_call1_call0_call0_v94) (.of main_call1_call0_call0_v96) (.of main_call1_call0_call0_v97) Host.shli,
  StableHlo.TRef.nullary (.of main_call1_call0_call0_c_25) (constantI S_ 32 26#32),
  StableHlo.TRef.unary (.of main_call1_call0_call0_c_25) (.of main_call1_call0_call0_v98) (broadcastInDim S128x100000 ![] bcast_S_S128x100000),
  StableHlo.TRef.binary (.of main_call1_call0_call0_v94) (.of main_call1_call0_call0_v98) (.of main_call1_call0_call0_v99) Host.shrui,
  StableHlo.TRef.binary (.of main_call1_call0_call0_v97) (.of main_call1_call0_call0_v99) (.of main_call1_call0_call0_v100) ori,
  StableHlo.TRef.binary (.of main_call1_call0_call0_v95) (.of main_call1_call0_call0_v100) (.of main_call1_call0_call0_v101) xori,
  StableHlo.TRef.unary (.of main_call1_call0_v5) (.of main_call1_call0_call0_v102) (broadcastInDim S128x100000 ![] bcast_S_S128x100000),
  StableHlo.TRef.binary (.of main_call1_call0_call0_v95) (.of main_call1_call0_call0_v102) (.of main_call1_call0_call0_v103) addi,
  StableHlo.TRef.unary (.of main_call1_call0_v7) (.of main_call1_call0_call0_v104) (broadcastInDim S128x100000 ![] bcast_S_S128x100000),
  StableHlo.TRef.binary (.of main_call1_call0_call0_v101) (.of main_call1_call0_call0_v104) (.of main_call1_call0_call0_v105) addi,
  StableHlo.TRef.nullary (.of main_call1_call0_call0_c_26) (constantI S_ 32 3#32),
  StableHlo.TRef.unary (.of main_call1_call0_call0_c_26) (.of main_call1_call0_call0_v106) (broadcastInDim S128x100000 ![] bcast_S_S128x100000),
  StableHlo.TRef.binary (.of main_call1_call0_call0_v105) (.of main_call1_call0_call0_v106) (.of main_call1_call0_call0_v107) addi]

/-- The references that `opsGroup2` writes, in order. -/
def opsGroup2_w : List (Ref sig .tc) := [
  main_call1_call0_call0_v74, main_call1_call0_call0_c_18, main_call1_call0_call0_v75, main_call1_call0_call0_v76, main_call1_call0_call0_c_19, main_call1_call0_call0_v77, main_call1_call0_call0_v78, main_call1_call0_call0_v79, main_call1_call0_call0_v80, main_call1_call0_call0_v81, main_call1_call0_call0_c_20, main_call1_call0_call0_v82, main_call1_call0_call0_v83, main_call1_call0_call0_c_21, main_call1_call0_call0_v84, main_call1_call0_call0_v85, main_call1_call0_call0_v86, main_call1_call0_call0_v87, main_call1_call0_call0_v88, main_call1_call0_call0_c_22, main_call1_call0_call0_v89, main_call1_call0_call0_v90, main_call1_call0_call0_c_23, main_call1_call0_call0_v91, main_call1_call0_call0_v92, main_call1_call0_call0_v93, main_call1_call0_call0_v94, main_call1_call0_call0_v95, main_call1_call0_call0_c_24, main_call1_call0_call0_v96, main_call1_call0_call0_v97, main_call1_call0_call0_c_25, main_call1_call0_call0_v98, main_call1_call0_call0_v99, main_call1_call0_call0_v100, main_call1_call0_call0_v101, main_call1_call0_call0_v102, main_call1_call0_call0_v103, main_call1_call0_call0_v104, main_call1_call0_call0_v105, main_call1_call0_call0_c_26, main_call1_call0_call0_v106, main_call1_call0_call0_v107]

theorem opsGroup2_writes : (opsGroup2 (F := F)).map HloOp.writes = opsGroup2_w.map fun w => {Proc.devRef (τ := τ) .tc w} := rfl

/-- Rounds 13 … 16 of the random words, and the key injection after them. -/
def opsGroup3 : List (HloOp τ sig (Elt F)) := [
  StableHlo.TRef.binary (.of main_call1_call0_call0_v103) (.of main_call1_call0_call0_v107) (.of main_call1_call0_call0_v108) addi,
  StableHlo.TRef.nullary (.of main_call1_call0_call0_c_27) (constantI S_ 32 17#32),
  StableHlo.TRef.unary (.of main_call1_call0_call0_c_27) (.of main_call1_call0_call0_v109) (broadcastInDim S128x100000 ![] bcast_S_S128x100000),
  StableHlo.TRef.binary (.of main_call1_call0_call0_v107) (.of main_call1_call0_call0_v109) (.of main_call1_call0_call0_v110) Host.shli,
  StableHlo.TRef.nullary (.of main_call1_call0_call0_c_28) (constantI S_ 32 15#32),
  StableHlo.TRef.unary (.of main_call1_call0_call0_c_28) (.of main_call1_call0_call0_v111) (broadcastInDim S128x100000 ![] bcast_S_S128x100000),
  StableHlo.TRef.binary (.of main_call1_call0_call0_v107) (.of main_call1_call0_call0_v111) (.of main_call1_call0_call0_v112) Host.shrui,
  StableHlo.TRef.binary (.of main_call1_call0_call0_v110) (.of main_call1_call0_call0_v112) (.of main_call1_call0_call0_v113) ori,
  StableHlo.TRef.binary (.of main_call1_call0_call0_v108) (.of main_call1_call0_call0_v113) (.of main_call1_call0_call0_v114) xori,
  StableHlo.TRef.binary (.of main_call1_call0_call0_v108) (.of main_call1_call0_call0_v114) (.of main_call1_call0_call0_v115) addi,
  StableHlo.TRef.nullary (.of main_call1_call0_call0_c_29) (constantI S_ 32 29#32),
  StableHlo.TRef.unary (.of main_call1_call0_call0_c_29) (.of main_call1_call0_call0_v116) (broadcastInDim S128x100000 ![] bcast_S_S128x100000),
  StableHlo.TRef.binary (.of main_call1_call0_call0_v114) (.of main_call1_call0_call0_v116) (.of main_call1_call0_call0_v117) Host.shli,
  StableHlo.TRef.nullary (.of main_call1_call0_call0_c_30) (constantI S_ 32 3#32),
  StableHlo.TRef.unary (.of main_call1_call0_call0_c_30) (.of main_call1_call0_call0_v118) (broadcastInDim S128x100000 ![] bcast_S_S128x100000),
  StableHlo.TRef.binary (.of main_call1_call0_call0_v114) (.of main_call1_call0_call0_v118) (.of main_call1_call0_call0_v119) Host.shrui,
  StableHlo.TRef.binary (.of main_call1_call0_call0_v117) (.of main_call1_call0_call0_v119) (.of main_call1_call0_call0_v120) ori,
  StableHlo.TRef.binary (.of main_call1_call0_call0_v115) (.of main_call1_call0_call0_v120) (.of main_call1_call0_call0_v121) xori,
  StableHlo.TRef.binary (.of main_call1_call0_call0_v115) (.of main_call1_call0_call0_v121) (.of main_call1_call0_call0_v122) addi,
  StableHlo.TRef.nullary (.of main_call1_call0_call0_c_31) (constantI S_ 32 16#32),
  StableHlo.TRef.unary (.of main_call1_call0_call0_c_31) (.of main_call1_call0_call0_v123) (broadcastInDim S128x100000 ![] bcast_S_S128x100000),
  StableHlo.TRef.binary (.of main_call1_call0_call0_v121) (.of main_call1_call0_call0_v123) (.of main_call1_call0_call0_v124) Host.shli,
  StableHlo.TRef.nullary (.of main_call1_call0_call0_c_32) (constantI S_ 32 16#32),
  StableHlo.TRef.unary (.of main_call1_call0_call0_c_32) (.of main_call1_call0_call0_v125) (broadcastInDim S128x100000 ![] bcast_S_S128x100000),
  StableHlo.TRef.binary (.of main_call1_call0_call0_v121) (.of main_call1_call0_call0_v125) (.of main_call1_call0_call0_v126) Host.shrui,
  StableHlo.TRef.binary (.of main_call1_call0_call0_v124) (.of main_call1_call0_call0_v126) (.of main_call1_call0_call0_v127) ori,
  StableHlo.TRef.binary (.of main_call1_call0_call0_v122) (.of main_call1_call0_call0_v127) (.of main_call1_call0_call0_v128) xori,
  StableHlo.TRef.binary (.of main_call1_call0_call0_v122) (.of main_call1_call0_call0_v128) (.of main_call1_call0_call0_v129) addi,
  StableHlo.TRef.nullary (.of main_call1_call0_call0_c_33) (constantI S_ 32 24#32),
  StableHlo.TRef.unary (.of main_call1_call0_call0_c_33) (.of main_call1_call0_call0_v130) (broadcastInDim S128x100000 ![] bcast_S_S128x100000),
  StableHlo.TRef.binary (.of main_call1_call0_call0_v128) (.of main_call1_call0_call0_v130) (.of main_call1_call0_call0_v131) Host.shli,
  StableHlo.TRef.nullary (.of main_call1_call0_call0_c_34) (constantI S_ 32 8#32),
  StableHlo.TRef.unary (.of main_call1_call0_call0_c_34) (.of main_call1_call0_call0_v132) (broadcastInDim S128x100000 ![] bcast_S_S128x100000),
  StableHlo.TRef.binary (.of main_call1_call0_call0_v128) (.of main_call1_call0_call0_v132) (.of main_call1_call0_call0_v133) Host.shrui,
  StableHlo.TRef.binary (.of main_call1_call0_call0_v131) (.of main_call1_call0_call0_v133) (.of main_call1_call0_call0_v134) ori,
  StableHlo.TRef.binary (.of main_call1_call0_call0_v129) (.of main_call1_call0_call0_v134) (.of main_call1_call0_call0_v135) xori,
  StableHlo.TRef.unary (.of main_call1_call0_v7) (.of main_call1_call0_call0_v136) (broadcastInDim S128x100000 ![] bcast_S_S128x100000),
  StableHlo.TRef.binary (.of main_call1_call0_call0_v129) (.of main_call1_call0_call0_v136) (.of main_call1_call0_call0_v137) addi,
  StableHlo.TRef.unary (.of main_call1_call0_call0_v1) (.of main_call1_call0_call0_v138) (broadcastInDim S128x100000 ![] bcast_S_S128x100000),
  StableHlo.TRef.binary (.of main_call1_call0_call0_v135) (.of main_call1_call0_call0_v138) (.of main_call1_call0_call0_v139) addi,
  StableHlo.TRef.nullary (.of main_call1_call0_call0_c_35) (constantI S_ 32 4#32),
  StableHlo.TRef.unary (.of main_call1_call0_call0_c_35) (.of main_call1_call0_call0_v140) (broadcastInDim S128x100000 ![] bcast_S_S128x100000),
  StableHlo.TRef.binary (.of main_call1_call0_call0_v139) (.of main_call1_call0_call0_v140) (.of main_call1_call0_call0_v141) addi]

/-- The references that `opsGroup3` writes, in order. -/
def opsGroup3_w : List (Ref sig .tc) := [
  main_call1_call0_call0_v108, main_call1_call0_call0_c_27, main_call1_call0_call0_v109, main_call1_call0_call0_v110, main_call1_call0_call0_c_28, main_call1_call0_call0_v111, main_call1_call0_call0_v112, main_call1_call0_call0_v113, main_call1_call0_call0_v114, main_call1_call0_call0_v115, main_call1_call0_call0_c_29, main_call1_call0_call0_v116, main_call1_call0_call0_v117, main_call1_call0_call0_c_30, main_call1_call0_call0_v118, main_call1_call0_call0_v119, main_call1_call0_call0_v120, main_call1_call0_call0_v121, main_call1_call0_call0_v122, main_call1_call0_call0_c_31, main_call1_call0_call0_v123, main_call1_call0_call0_v124, main_call1_call0_call0_c_32, main_call1_call0_call0_v125, main_call1_call0_call0_v126, main_call1_call0_call0_v127, main_call1_call0_call0_v128, main_call1_call0_call0_v129, main_call1_call0_call0_c_33, main_call1_call0_call0_v130, main_call1_call0_call0_v131, main_call1_call0_call0_c_34, main_call1_call0_call0_v132, main_call1_call0_call0_v133, main_call1_call0_call0_v134, main_call1_call0_call0_v135, main_call1_call0_call0_v136, main_call1_call0_call0_v137, main_call1_call0_call0_v138, main_call1_call0_call0_v139, main_call1_call0_call0_c_35, main_call1_call0_call0_v140, main_call1_call0_call0_v141]

theorem opsGroup3_writes : (opsGroup3 (F := F)).map HloOp.writes = opsGroup3_w.map fun w => {Proc.devRef (τ := τ) .tc w} := rfl

/-- Rounds 17 … 20 of the random words, and the key injection after them. -/
def opsGroup4 : List (HloOp τ sig (Elt F)) := [
  StableHlo.TRef.binary (.of main_call1_call0_call0_v137) (.of main_call1_call0_call0_v141) (.of main_call1_call0_call0_v142) addi,
  StableHlo.TRef.nullary (.of main_call1_call0_call0_c_36) (constantI S_ 32 13#32),
  StableHlo.TRef.unary (.of main_call1_call0_call0_c_36) (.of main_call1_call0_call0_v143) (broadcastInDim S128x100000 ![] bcast_S_S128x100000),
  StableHlo.TRef.binary (.of main_call1_call0_call0_v141) (.of main_call1_call0_call0_v143) (.of main_call1_call0_call0_v144) Host.shli,
  StableHlo.TRef.nullary (.of main_call1_call0_call0_c_37) (constantI S_ 32 19#32),
  StableHlo.TRef.unary (.of main_call1_call0_call0_c_37) (.of main_call1_call0_call0_v145) (broadcastInDim S128x100000 ![] bcast_S_S128x100000),
  StableHlo.TRef.binary (.of main_call1_call0_call0_v141) (.of main_call1_call0_call0_v145) (.of main_call1_call0_call0_v146) Host.shrui,
  StableHlo.TRef.binary (.of main_call1_call0_call0_v144) (.of main_call1_call0_call0_v146) (.of main_call1_call0_call0_v147) ori,
  StableHlo.TRef.binary (.of main_call1_call0_call0_v142) (.of main_call1_call0_call0_v147) (.of main_call1_call0_call0_v148) xori,
  StableHlo.TRef.binary (.of main_call1_call0_call0_v142) (.of main_call1_call0_call0_v148) (.of main_call1_call0_call0_v149) addi,
  StableHlo.TRef.nullary (.of main_call1_call0_call0_c_38) (constantI S_ 32 15#32),
  StableHlo.TRef.unary (.of main_call1_call0_call0_c_38) (.of main_call1_call0_call0_v150) (broadcastInDim S128x100000 ![] bcast_S_S128x100000),
  StableHlo.TRef.binary (.of main_call1_call0_call0_v148) (.of main_call1_call0_call0_v150) (.of main_call1_call0_call0_v151) Host.shli,
  StableHlo.TRef.nullary (.of main_call1_call0_call0_c_39) (constantI S_ 32 17#32),
  StableHlo.TRef.unary (.of main_call1_call0_call0_c_39) (.of main_call1_call0_call0_v152) (broadcastInDim S128x100000 ![] bcast_S_S128x100000),
  StableHlo.TRef.binary (.of main_call1_call0_call0_v148) (.of main_call1_call0_call0_v152) (.of main_call1_call0_call0_v153) Host.shrui,
  StableHlo.TRef.binary (.of main_call1_call0_call0_v151) (.of main_call1_call0_call0_v153) (.of main_call1_call0_call0_v154) ori,
  StableHlo.TRef.binary (.of main_call1_call0_call0_v149) (.of main_call1_call0_call0_v154) (.of main_call1_call0_call0_v155) xori,
  StableHlo.TRef.binary (.of main_call1_call0_call0_v149) (.of main_call1_call0_call0_v155) (.of main_call1_call0_call0_v156) addi,
  StableHlo.TRef.nullary (.of main_call1_call0_call0_c_40) (constantI S_ 32 26#32),
  StableHlo.TRef.unary (.of main_call1_call0_call0_c_40) (.of main_call1_call0_call0_v157) (broadcastInDim S128x100000 ![] bcast_S_S128x100000),
  StableHlo.TRef.binary (.of main_call1_call0_call0_v155) (.of main_call1_call0_call0_v157) (.of main_call1_call0_call0_v158) Host.shli,
  StableHlo.TRef.nullary (.of main_call1_call0_call0_c_41) (constantI S_ 32 6#32),
  StableHlo.TRef.unary (.of main_call1_call0_call0_c_41) (.of main_call1_call0_call0_v159) (broadcastInDim S128x100000 ![] bcast_S_S128x100000),
  StableHlo.TRef.binary (.of main_call1_call0_call0_v155) (.of main_call1_call0_call0_v159) (.of main_call1_call0_call0_v160) Host.shrui,
  StableHlo.TRef.binary (.of main_call1_call0_call0_v158) (.of main_call1_call0_call0_v160) (.of main_call1_call0_call0_v161) ori,
  StableHlo.TRef.binary (.of main_call1_call0_call0_v156) (.of main_call1_call0_call0_v161) (.of main_call1_call0_call0_v162) xori,
  StableHlo.TRef.binary (.of main_call1_call0_call0_v156) (.of main_call1_call0_call0_v162) (.of main_call1_call0_call0_v163) addi,
  StableHlo.TRef.nullary (.of main_call1_call0_call0_c_42) (constantI S_ 32 6#32),
  StableHlo.TRef.unary (.of main_call1_call0_call0_c_42) (.of main_call1_call0_call0_v164) (broadcastInDim S128x100000 ![] bcast_S_S128x100000),
  StableHlo.TRef.binary (.of main_call1_call0_call0_v162) (.of main_call1_call0_call0_v164) (.of main_call1_call0_call0_v165) Host.shli,
  StableHlo.TRef.nullary (.of main_call1_call0_call0_c_43) (constantI S_ 32 26#32),
  StableHlo.TRef.unary (.of main_call1_call0_call0_c_43) (.of main_call1_call0_call0_v166) (broadcastInDim S128x100000 ![] bcast_S_S128x100000),
  StableHlo.TRef.binary (.of main_call1_call0_call0_v162) (.of main_call1_call0_call0_v166) (.of main_call1_call0_call0_v167) Host.shrui,
  StableHlo.TRef.binary (.of main_call1_call0_call0_v165) (.of main_call1_call0_call0_v167) (.of main_call1_call0_call0_v168) ori,
  StableHlo.TRef.binary (.of main_call1_call0_call0_v163) (.of main_call1_call0_call0_v168) (.of main_call1_call0_call0_v169) xori,
  StableHlo.TRef.unary (.of main_call1_call0_call0_v1) (.of main_call1_call0_call0_v170) (broadcastInDim S128x100000 ![] bcast_S_S128x100000),
  StableHlo.TRef.binary (.of main_call1_call0_call0_v163) (.of main_call1_call0_call0_v170) (.of main_call1_call0_v19_0) addi,
  StableHlo.TRef.unary (.of main_call1_call0_v5) (.of main_call1_call0_call0_v172) (broadcastInDim S128x100000 ![] bcast_S_S128x100000),
  StableHlo.TRef.binary (.of main_call1_call0_call0_v169) (.of main_call1_call0_call0_v172) (.of main_call1_call0_call0_v173) addi,
  StableHlo.TRef.nullary (.of main_call1_call0_call0_c_44) (constantI S_ 32 5#32),
  StableHlo.TRef.unary (.of main_call1_call0_call0_c_44) (.of main_call1_call0_call0_v174) (broadcastInDim S128x100000 ![] bcast_S_S128x100000),
  StableHlo.TRef.binary (.of main_call1_call0_call0_v173) (.of main_call1_call0_call0_v174) (.of main_call1_call0_v19_1) addi]

/-- The references that `opsGroup4` writes, in order. -/
def opsGroup4_w : List (Ref sig .tc) := [
  main_call1_call0_call0_v142, main_call1_call0_call0_c_36, main_call1_call0_call0_v143, main_call1_call0_call0_v144, main_call1_call0_call0_c_37, main_call1_call0_call0_v145, main_call1_call0_call0_v146, main_call1_call0_call0_v147, main_call1_call0_call0_v148, main_call1_call0_call0_v149, main_call1_call0_call0_c_38, main_call1_call0_call0_v150, main_call1_call0_call0_v151, main_call1_call0_call0_c_39, main_call1_call0_call0_v152, main_call1_call0_call0_v153, main_call1_call0_call0_v154, main_call1_call0_call0_v155, main_call1_call0_call0_v156, main_call1_call0_call0_c_40, main_call1_call0_call0_v157, main_call1_call0_call0_v158, main_call1_call0_call0_c_41, main_call1_call0_call0_v159, main_call1_call0_call0_v160, main_call1_call0_call0_v161, main_call1_call0_call0_v162, main_call1_call0_call0_v163, main_call1_call0_call0_c_42, main_call1_call0_call0_v164, main_call1_call0_call0_v165, main_call1_call0_call0_c_43, main_call1_call0_call0_v166, main_call1_call0_call0_v167, main_call1_call0_call0_v168, main_call1_call0_call0_v169, main_call1_call0_call0_v170, main_call1_call0_v19_0, main_call1_call0_call0_v172, main_call1_call0_call0_v173, main_call1_call0_call0_c_44, main_call1_call0_call0_v174, main_call1_call0_v19_1]

theorem opsGroup4_writes : (opsGroup4 (F := F)).map HloOp.writes = opsGroup4_w.map fun w => {Proc.devRef (τ := τ) .tc w} := rfl

/-- The operations after the random words: the uniform numbers, the exponential noise, and the quotient by it. -/
def opsNoise : List (HloOp τ sig (Elt F)) := [
  StableHlo.TRef.binary (.of main_call1_call0_v19_0) (.of main_call1_call0_v19_1) (.of main_call1_call0_v20) xori,
  StableHlo.TRef.nullary (.of main_call1_call0_c_2) (constantI S_ 32 9#32),
  StableHlo.TRef.unary (.of main_call1_call0_c_2) (.of main_call1_call0_v21) (broadcastInDim S128x100000 ![] bcast_S_S128x100000),
  StableHlo.TRef.binary (.of main_call1_call0_v20) (.of main_call1_call0_v21) (.of main_call1_call0_v22) Host.shrui,
  StableHlo.TRef.nullary (.of main_call1_call0_c_3) (constantI S_ 32 1065353216#32),
  StableHlo.TRef.unary (.of main_call1_call0_c_3) (.of main_call1_call0_v23) (broadcastInDim S128x100000 ![] bcast_S_S128x100000),
  StableHlo.TRef.binary (.of main_call1_call0_v22) (.of main_call1_call0_v23) (.of main_call1_call0_v24) ori,
  StableHlo.TRef.unary (.of main_call1_call0_v24) (.of main_call1_call0_v25) (bitcastToFloat .f32),
  StableHlo.TRef.nullary (.of main_call1_call0_cst) (constant S_ .f32 0x3F800000#32),
  StableHlo.TRef.unary (.of main_call1_call0_cst) (.of main_call1_call0_v26) (broadcastInDim S128x100000 ![] bcast_S_S128x100000),
  StableHlo.TRef.binary (.of main_call1_call0_v25) (.of main_call1_call0_v26) (.of main_call1_call0_v27) subf,
  StableHlo.TRef.binary (.of main_call1_call0_v3) (.of main_call1_call0_v2) (.of main_call1_call0_v28) subf,
  StableHlo.TRef.unary (.of main_call1_call0_v28) (.of main_call1_call0_v29) (broadcastInDim S128x100000 ![0, 1] bcast_S1x1_S128x100000_0_1 : (⟨S1x1, .f32⟩ : BufTy).Contents (Elt F) → (⟨S128x100000, .f32⟩ : BufTy).Contents (Elt F)),
  StableHlo.TRef.binary (.of main_call1_call0_v27) (.of main_call1_call0_v29) (.of main_call1_call0_v30) mulf,
  StableHlo.TRef.unary (.of main_call1_call0_v2) (.of main_call1_call0_v31) (broadcastInDim S128x100000 ![0, 1] bcast_S1x1_S128x100000_0_1 : (⟨S1x1, .f32⟩ : BufTy).Contents (Elt F) → (⟨S128x100000, .f32⟩ : BufTy).Contents (Elt F)),
  StableHlo.TRef.binary (.of main_call1_call0_v30) (.of main_call1_call0_v31) (.of main_call1_call0_v32) addf,
  StableHlo.TRef.unary (.of main_call1_call0_v2) (.of main_call1_call0_v33) (broadcastInDim S128x100000 ![0, 1] bcast_S1x1_S128x100000_0_1 : (⟨S1x1, .f32⟩ : BufTy).Contents (Elt F) → (⟨S128x100000, .f32⟩ : BufTy).Contents (Elt F)),
  StableHlo.TRef.binary (.of main_call1_call0_v33) (.of main_call1_call0_v32) (.of main_call1_v0) maximumf,
  StableHlo.TRef.unary (.of main_call1_v0) (.of main_call1_v1) Host.negf,
  StableHlo.TRef.unary (.of main_call1_v1) (.of main_call1_v2) Host.log1p,
  StableHlo.TRef.unary (.of main_call1_v2) (.of main_v25) Host.negf,
  StableHlo.nullary main_cst_6 (constant S_ .f32 0x2EDBE6FF#32),
  StableHlo.TRef.unary (.of main_cst_6) (.of main_call2_v0) id,
  StableHlo.TRef.unary (.of main_call2_v0) (.of main_call2_v1) (broadcastInDim S128x100000 ![] bcast_S_S128x100000),
  StableHlo.TRef.binary (.of main_call2_v1) (.of main_v25) (.of main_v26) maximumf,
  StableHlo.binary main_v17 main_v26 main_v27 (Host.divf : (⟨S128x100000, .f32⟩ : BufTy).Contents (Elt F) → (⟨S128x100000, .f32⟩ : BufTy).Contents (Elt F) → (⟨S128x100000, .f32⟩ : BufTy).Contents (Elt F))]

/-- The references that `opsNoise` writes, in order. -/
def opsNoise_w : List (Ref sig .tc) := [
  main_call1_call0_v20, main_call1_call0_c_2, main_call1_call0_v21, main_call1_call0_v22, main_call1_call0_c_3, main_call1_call0_v23, main_call1_call0_v24, main_call1_call0_v25, main_call1_call0_cst, main_call1_call0_v26, main_call1_call0_v27, main_call1_call0_v28, main_call1_call0_v29, main_call1_call0_v30, main_call1_call0_v31, main_call1_call0_v32, main_call1_call0_v33, main_call1_v0, main_call1_v1, main_call1_v2, main_v25, main_cst_6, main_call2_v0, main_call2_v1, main_v26, main_v27]

theorem opsNoise_writes : (opsNoise (F := F)).map HloOp.writes = opsNoise_w.map fun w => {Proc.devRef (τ := τ) .tc w} := rfl

/-- The two argmaxes. -/
def opsPick : List (HloOp τ sig (Elt F)) := [
  StableHlo.TRef.nullary (.of main_call3_v0) (iotaInDim S128x100000 32 1),
  StableHlo.TRef.nullary (.of main_call3_cst) (constant S_ .f32 0xFF800000#32),
  StableHlo.TRef.nullary (.of main_call3_c) (constantI S_ 32 0#32),
  StableHlo.TRef.quaternary (.of main_v27) (.of main_call3_v0) (.of main_call3_cst) (.of main_call3_c) (.of main_call3_v1_0) (fun x y u v j => (Host.argReduce reducer_argmax_f32_i32 x y u v reducesTo_S128x100000_S128_d1 h_S_ j).1),
  StableHlo.TRef.quaternary (.of main_v27) (.of main_call3_v0) (.of main_call3_cst) (.of main_call3_c) (.of main_v28) (fun x y u v j => (Host.argReduce reducer_argmax_f32_i32 x y u v reducesTo_S128x100000_S128_d1 h_S_ j).2),
  StableHlo.TRef.nullary (.of main_call4_v0) (iotaInDim S128x100000 32 1),
  StableHlo.TRef.nullary (.of main_call4_cst) (constant S_ .f32 0xFF800000#32),
  StableHlo.TRef.nullary (.of main_call4_c) (constantI S_ 32 0#32),
  StableHlo.TRef.quaternary (.of main_arg0) (.of main_call4_v0) (.of main_call4_cst) (.of main_call4_c) (.of main_call4_v1_0) (fun x y u v j => (Host.argReduce reducer_argmax_f32_i32 x y u v reducesTo_S128x100000_S128_d1 h_S_ j).1),
  StableHlo.TRef.quaternary (.of main_arg0) (.of main_call4_v0) (.of main_call4_cst) (.of main_call4_c) (.of main_v29) (fun x y u v j => (Host.argReduce reducer_argmax_f32_i32 x y u v reducesTo_S128x100000_S128_d1 h_S_ j).2)]

/-- The references that `opsPick` writes, in order. -/
def opsPick_w : List (Ref sig .tc) := [
  main_call3_v0, main_call3_cst, main_call3_c, main_call3_v1_0, main_v28, main_call4_v0, main_call4_cst, main_call4_c, main_call4_v1_0, main_v29]

theorem opsPick_writes : (opsPick (F := F)).map HloOp.writes = opsPick_w.map fun w => {Proc.devRef (τ := τ) .tc w} := rfl

/-- The choice between them. -/
def opsChoose : List (HloOp τ sig (Elt F)) := [
  StableHlo.TRef.ternary (.of main_v1) (.of main_v29) (.of main_v28) (.of main_v30) select]

/-- The references that `opsChoose` writes, in order. -/
def opsChoose_w : List (Ref sig .tc) := [
  main_v30]

theorem opsChoose_writes : (opsChoose (F := F)).map HloOp.writes = opsChoose_w.map fun w => {Proc.devRef (τ := τ) .tc w} := rfl

/-- The whole program: the stretches in order. -/
def ops : List (HloOp τ sig (Elt F)) :=
  opsHead ++ (opsKey ++ (opsGroup0 ++ (opsGroup1 ++ (opsGroup2 ++ (opsGroup3 ++ (opsGroup4 ++ (opsNoise ++ (opsPick ++ (opsChoose)))))))))

set_option maxHeartbeats 4000000 in
/-- The printed program is these operations, one after the other. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefRun.lean ====
module

public import proofs.«01_k».proof.Proof.Ref
public import Idealize.ShloMosaic.Lib.Pipeline.Frame

/-!
  The reference program's run, and its result as a value of its two arguments: the fold of Ref.lean's operations
  read stretch by stretch.
-/

@[expose] public section

set_option maxRecDepth 20000

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-! ## The run -/

theorem opsHead_sub : (opsHead (F := F)).Forall fun op => op.bufs ⊆ tcRefs τ sig := by
  simp [opsHead, List.Forall]

theorem opsHead_fresh : (opsHead (F := F)).Forall fun op => op.fresh = ∅ := forall_fresh_of_map rfl

theorem opsKey_sub : (opsKey (F := F)).Forall fun op => op.bufs ⊆ tcRefs τ sig := by
  simp [opsKey, List.Forall]

theorem opsKey_fresh : (opsKey (F := F)).Forall fun op => op.fresh = ∅ := forall_fresh_of_map rfl

theorem opsGroup0_sub : (opsGroup0 (F := F)).Forall fun op => op.bufs ⊆ tcRefs τ sig := by
  simp [opsGroup0, List.Forall]

theorem opsGroup0_fresh : (opsGroup0 (F := F)).Forall fun op => op.fresh = ∅ := forall_fresh_of_map rfl

theorem opsGroup1_sub : (opsGroup1 (F := F)).Forall fun op => op.bufs ⊆ tcRefs τ sig := by
  simp [opsGroup1, List.Forall]

theorem opsGroup1_fresh : (opsGroup1 (F := F)).Forall fun op => op.fresh = ∅ := forall_fresh_of_map rfl

theorem opsGroup2_sub : (opsGroup2 (F := F)).Forall fun op => op.bufs ⊆ tcRefs τ sig := by
  simp [opsGroup2, List.Forall]

theorem opsGroup2_fresh : (opsGroup2 (F := F)).Forall fun op => op.fresh = ∅ := forall_fresh_of_map rfl

theorem opsGroup3_sub : (opsGroup3 (F := F)).Forall fun op => op.bufs ⊆ tcRefs τ sig := by
  simp [opsGroup3, List.Forall]

theorem opsGroup3_fresh : (opsGroup3 (F := F)).Forall fun op => op.fresh = ∅ := forall_fresh_of_map rfl

theorem opsGroup4_sub : (opsGroup4 (F := F)).Forall fun op => op.bufs ⊆ tcRefs τ sig := by
  simp [opsGroup4, List.Forall]

theorem opsGroup4_fresh : (opsGroup4 (F := F)).Forall fun op => op.fresh = ∅ := forall_fresh_of_map rfl

theorem opsNoise_sub : (opsNoise (F := F)).Forall fun op => op.bufs ⊆ tcRefs τ sig := by
  simp [opsNoise, List.Forall]

theorem opsNoise_fresh : (opsNoise (F := F)).Forall fun op => op.fresh = ∅ := forall_fresh_of_map rfl

theorem opsPick_sub : (opsPick (F := F)).Forall fun op => op.bufs ⊆ tcRefs τ sig := by
  simp [opsPick, List.Forall]

theorem opsPick_fresh : (opsPick (F := F)).Forall fun op => op.fresh = ∅ := forall_fresh_of_map rfl

theorem opsChoose_sub : (opsChoose (F := F)).Forall fun op => op.bufs ⊆ tcRefs τ sig := by
  simp [opsChoose, List.Forall]

theorem opsChoose_fresh : (opsChoose (F := F)).Forall fun op => op.fresh = ∅ := forall_fresh_of_map rfl

/-- Every operation touches TensorCore buffers only. -/
theorem ops_sub : (ops (F := F)).Forall fun op => op.bufs ⊆ tcRefs τ sig := by
  unfold ops
  simp only [List.forall_append]
  exact ⟨opsHead_sub, opsKey_sub, opsGroup0_sub, opsGroup1_sub, opsGroup2_sub, opsGroup3_sub, opsGroup4_sub, opsNoise_sub, opsPick_sub, opsChoose_sub⟩

/-- No operation writes a buffer of unknown contents. -/
theorem ops_fresh : (ops (F := F)).Forall fun op => op.fresh = ∅ := by
  unfold ops
  simp only [List.forall_append]
  exact ⟨opsHead_fresh, opsKey_fresh, opsGroup0_fresh, opsGroup1_fresh, opsGroup2_fresh, opsGroup3_fresh, opsGroup4_fresh, opsNoise_fresh, opsPick_fresh, opsChoose_fresh⟩

/-- The reference runs to the fold of its operations at every buffer. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## Stretch by stretch -/

/-- Contents of every buffer. -/
abbrev RefVal (F : FTy → Type) := Valuation τ sig (Elt F)

theorem opsHead_keep (V : RefVal F) (r : Ref sig .tc) (h : r ∉ opsHead_w) : after opsHead V (Proc.devRef .tc r) = V (Proc.devRef .tc r) :=
  after_unwritten opsHead_w opsHead_writes h V

theorem opsKey_keep (V : RefVal F) (r : Ref sig .tc) (h : r ∉ opsKey_w) : after opsKey V (Proc.devRef .tc r) = V (Proc.devRef .tc r) :=
  after_unwritten opsKey_w opsKey_writes h V

theorem opsGroup0_keep (V : RefVal F) (r : Ref sig .tc) (h : r ∉ opsGroup0_w) : after opsGroup0 V (Proc.devRef .tc r) = V (Proc.devRef .tc r) :=
  after_unwritten opsGroup0_w opsGroup0_writes h V

theorem opsGroup1_keep (V : RefVal F) (r : Ref sig .tc) (h : r ∉ opsGroup1_w) : after opsGroup1 V (Proc.devRef .tc r) = V (Proc.devRef .tc r) :=
  after_unwritten opsGroup1_w opsGroup1_writes h V

theorem opsGroup2_keep (V : RefVal F) (r : Ref sig .tc) (h : r ∉ opsGroup2_w) : after opsGroup2 V (Proc.devRef .tc r) = V (Proc.devRef .tc r) :=
  after_unwritten opsGroup2_w opsGroup2_writes h V

theorem opsGroup3_keep (V : RefVal F) (r : Ref sig .tc) (h : r ∉ opsGroup3_w) : after opsGroup3 V (Proc.devRef .tc r) = V (Proc.devRef .tc r) :=
  after_unwritten opsGroup3_w opsGroup3_writes h V

theorem opsGroup4_keep (V : RefVal F) (r : Ref sig .tc) (h : r ∉ opsGroup4_w) : after opsGroup4 V (Proc.devRef .tc r) = V (Proc.devRef .tc r) :=
  after_unwritten opsGroup4_w opsGroup4_writes h V

theorem opsNoise_keep (V : RefVal F) (r : Ref sig .tc) (h : r ∉ opsNoise_w) : after opsNoise V (Proc.devRef .tc r) = V (Proc.devRef .tc r) :=
  after_unwritten opsNoise_w opsNoise_writes h V

theorem opsPick_keep (V : RefVal F) (r : Ref sig .tc) (h : r ∉ opsPick_w) : after opsPick V (Proc.devRef .tc r) = V (Proc.devRef .tc r) :=
  after_unwritten opsPick_w opsPick_writes h V

theorem opsChoose_keep (V : RefVal F) (r : Ref sig .tc) (h : r ∉ opsChoose_w) : after opsChoose V (Proc.devRef .tc r) = V (Proc.devRef .tc r) :=
  after_unwritten opsChoose_w opsChoose_writes h V

/-- A pair of arrays of words: the two words of every element's counter block. -/
abbrev Words := IVec S128x100000 32 × IVec S128x100000 32

/-- An array filled with one word. -/
def fill (w : IVec S_ 32) : IVec S128x100000 32 := broadcastInDim S128x100000 ![] bcast_S_S128x100000 w

/-- Every word rotated to the left by `a` bits, `b` being `32 - a`. -/
def rotl (a b : BitVec 32) (x : IVec S128x100000 32) : IVec S128x100000 32 :=
  ori (Host.shli x (fill (constantI S_ 32 a))) (Host.shrui x (fill (constantI S_ 32 b)))

/-- One round. -/
def rnd (a b : BitVec 32) (x : Words) : Words :=
  (addi x.1 x.2, xori (addi x.1 x.2) (rotl a b x.2))

/-- A key injection: a key word added to each word, and the count `n` of injections to the second. -/
def inject (k l : IVec S_ 32) (n : BitVec 32) (x : Words) : Words :=
  (addi x.1 (fill k), addi (addi x.2 (fill l)) (fill (constantI S_ 32 n)))

/-- Four rounds with the first set of rotations. -/
def roundsA (x : Words) : Words := rnd 6 26 (rnd 26 6 (rnd 15 17 (rnd 13 19 x)))

/-- Four rounds with the second set of rotations. -/
def roundsB (x : Words) : Words := rnd 24 8 (rnd 16 16 (rnd 29 3 (rnd 17 15 x)))

theorem group0 (V : RefVal F) :
    (after opsGroup0 V main_call1_call0_call0_v35, after opsGroup0 V main_call1_call0_call0_v39)
      = inject (V main_call1_call0_v7) (V main_call1_call0_call0_v1) 1 (roundsA (V main_call1_call0_call0_v3, V main_call1_call0_call0_v5)) := by
  unfold opsGroup0
  after_reads_simp
  rfl

theorem group1 (V : RefVal F) :
    (after opsGroup1 V main_call1_call0_call0_v69, after opsGroup1 V main_call1_call0_call0_v73)
      = inject (V main_call1_call0_call0_v1) (V main_call1_call0_v5) 2 (roundsB (V main_call1_call0_call0_v35, V main_call1_call0_call0_v39)) := by
  unfold opsGroup1
  after_reads_simp
  rfl

theorem group2 (V : RefVal F) :
    (after opsGroup2 V main_call1_call0_call0_v103, after opsGroup2 V main_call1_call0_call0_v107)
      = inject (V main_call1_call0_v5) (V main_call1_call0_v7) 3 (roundsA (V main_call1_call0_call0_v69, V main_call1_call0_call0_v73)) := by
  unfold opsGroup2
  after_reads_simp
  rfl

theorem group3 (V : RefVal F) :
    (after opsGroup3 V main_call1_call0_call0_v137, after opsGroup3 V main_call1_call0_call0_v141)
      = inject (V main_call1_call0_v7) (V main_call1_call0_call0_v1) 4 (roundsB (V main_call1_call0_call0_v103, V main_call1_call0_call0_v107)) := by
  unfold opsGroup3
  after_reads_simp
  rfl

theorem group4 (V : RefVal F) :
    (after opsGroup4 V main_call1_call0_v19_0, after opsGroup4 V main_call1_call0_v19_1)
      = inject (V main_call1_call0_call0_v1) (V main_call1_call0_v5) 5 (roundsA (V main_call1_call0_call0_v137, V main_call1_call0_call0_v141)) := by
  unfold opsGroup4
  after_reads_simp
  rfl

/-! ## What the stretches compute -/

/-- Which rows are greedy. -/
def greedyMask (t : FVec F S128 .f32) : IVec S128 1 :=
  cmpf .ole t (broadcastInDim S128 ![] bcast_S_S128 (constant S_ .f32 0x2EDBE6FF#32))

/-- One number per row, along the row. -/
def rows (v : FVec F S128 .f32) : FVec F S128x100000 .f32 :=
  broadcastInDim S128x100000 ![0, 1] bcast_S128x1_S128x100000_0_1 (broadcastInDim S128x1 ![0] bcast_S128_S128x1_0 v)

/-- The logits over the temperatures, a greedy row's temperature taken as one. -/
def scaled (l : FVec F S128x100000 .f32) (t : FVec F S128 .f32) : FVec F S128x100000 .f32 :=
  Host.divf l (rows (select (greedyMask t) (broadcastInDim S128 ![] bcast_S_S128 (constant S_ .f32 0x3F800000#32)) t))

/-- Every row's maximum. -/
def rowMax (x : FVec F S128x100000 .f32) : FVec F S128 .f32 :=
  maximumf (broadcastInDim S128 ![] bcast_S_S128 (constant S_ .f32 0xFF800000#32))
    (Host.reduce FloatOps.maximumf x (constant S_ .f32 0xFF800000#32) reducesTo_S128x100000_S128_d1 h_S_)

/-- The exponentials of the differences to the row's maximum. -/
def expd (x : FVec F S128x100000 .f32) : FVec F S128x100000 .f32 := Host.exp (subf x (rows (rowMax x)))

/-- The softmax of every row. -/
def probs (x : FVec F S128x100000 .f32) : FVec F S128x100000 .f32 :=
  Host.divf (expd x) (rows (Host.reduceAdd (expd x) (constant S_ .f32 0x00000000#32) reducesTo_S128x100000_S128_d1 h_S_))

/-- The key's two words, as one array. -/
def keyPair : IVec S2 32 :=
  concatenate S2 0
    [⟨S1, broadcastInDim S1 ![] bcast_S_S1 (Host.shrui (constantI S_ 32 12345#32) (constantI S_ 32 32#32))⟩,
     ⟨S1, broadcastInDim S1 ![] bcast_S_S1 (andi (constantI S_ 32 12345#32) (constantI S_ 32 4294967295#32))⟩] concatenates_S1_S1_S2_d0

/-- The key's first word. -/
def key0 : IVec S_ 32 := shapeCast S_ (extractStridedSlice S1 ![0] keyPair slices_S2_S1_0) shapeCasts_S1_S_

/-- The key's second word. -/
def key1 : IVec S_ 32 := shapeCast S_ (extractStridedSlice S1 ![1] keyPair slices_S2_S1_1) shapeCasts_S1_S_

/-- The key's third word. -/
def key2 : IVec S_ 32 := xori (xori key0 key1) (constantI S_ 32 466688986#32)

/-- Every element's number, row after row. -/
def counter : IVec S128x100000 64 :=
  addi (muli (broadcastInDim S128x100000 ![] bcast_S_S128x100000 (constantI S_ 64 100000#64)) (iotaInDim S128x100000 64 0))
    (muli (broadcastInDim S128x100000 ![] bcast_S_S128x100000 (constantI S_ 64 1#64)) (iotaInDim S128x100000 64 1))

/-- The number's high half. -/
def counterHi : IVec S128x100000 32 :=
  trunci 32 (Host.shrui counter (broadcastInDim S128x100000 ![] bcast_S_S128x100000 (constantI S_ 64 32#64))) natLt_32_64

/-- The number's low half. -/
def counterLo : IVec S128x100000 32 := trunci 32 counter natLt_32_64

/-- A number at every element, by way of a one-by-one array. -/
def everywhere (z : FVec F S_ .f32) : FVec F S128x100000 .f32 :=
  broadcastInDim S128x100000 ![0, 1] bcast_S1x1_S128x100000_0_1 (broadcastInDim S1x1 ![] bcast_S_S1x1 z)

/-- The uniform numbers off the random words. -/
def uniforms (w : IVec S128x100000 32) : FVec F S128x100000 .f32 :=
  maximumf (everywhere (constant S_ .f32 0x00000000#32))
    (addf
      (mulf
        (subf (bitcastToFloat .f32 (ori (Host.shrui w (fill (constantI S_ 32 9#32))) (fill (constantI S_ 32 1065353216#32))))
          (broadcastInDim S128x100000 ![] bcast_S_S128x100000 (constant S_ .f32 0x3F800000#32)))
        (broadcastInDim S128x100000 ![0, 1] bcast_S1x1_S128x100000_0_1
          (subf (broadcastInDim S1x1 ![] bcast_S_S1x1 (constant S_ .f32 0x3F800000#32)) (broadcastInDim S1x1 ![] bcast_S_S1x1 (constant S_ .f32 0x00000000#32)))))
      (everywhere (constant S_ .f32 0x00000000#32)))

/-- The exponential noise off the random words, held away from zero. -/
def noise (w : IVec S128x100000 32) : FVec F S128x100000 .f32 :=
  maximumf (broadcastInDim S128x100000 ![] bcast_S_S128x100000 (constant S_ .f32 0x2EDBE6FF#32))
    (Host.negf (Host.log1p (Host.negf (uniforms w))))

/-- The places an argmax finds. -/
def places {s t u : Shape} {axes : List (Fin s.rank)} {φ : FTy} {β : Type} (f : F φ × β → F φ × β → F φ × β) (x : FVec F s φ)
    (y : s.Idx → β) (ix : u.Idx → F φ) (iy : u.Idx → β) (h : s.ReducesTo axes t) (hu : 0 < u.numel) : t.Idx → β :=
  fun j => (Host.argReduce f x y ix iy h hu j).2

/-- Every row's argmax. -/
def rowArg (x : FVec F S128x100000 .f32) : IVec S128 32 :=
  places reducer_argmax_f32_i32 x (iotaInDim S128x100000 32 1) (constant S_ .f32 0xFF800000#32) (constantI S_ 32 0#32)
    reducesTo_S128x100000_S128_d1 h_S_

/-- The random words: the threefry block of every element's number, its two words joined. -/
def startWords : Words := (addi counterHi (fill key0), addi counterLo (fill key1))

/-- The two output words of every element. -/
def outWords : Words :=
  inject key2 key0 5 (roundsA (inject key1 key2 4 (roundsB (inject key0 key1 3 (roundsA (inject key2 key0 2 (roundsB
    (inject key1 key2 1 (roundsA startWords)))))))))

/-- The reference's result. -/
def result (l : FVec F S128x100000 .f32) (t : FVec F S128 .f32) : IVec S128 32 :=
  select (greedyMask t) (rowArg l) (rowArg (Host.divf (probs (scaled l t)) (noise (xori outWords.1 outWords.2))))

theorem head_mask (V : RefVal F) : after opsHead V main_v1 = greedyMask (V main_arg1) := by
  unfold opsHead; after_reads_simp; rfl
theorem head_probs (V : RefVal F) : after opsHead V main_v17 = probs (scaled (V main_arg0) (V main_arg1)) := by
  unfold opsHead; after_reads_simp; rfl
theorem head_key0 (V : RefVal F) : after opsHead V main_call1_call0_v5 = key0 := by
  unfold opsHead; after_reads_simp; rfl
theorem head_key1 (V : RefVal F) : after opsHead V main_call1_call0_v7 = key1 := by
  unfold opsHead; after_reads_simp; rfl
theorem head_hi (V : RefVal F) : after opsHead V main_call1_call0_v18 = counterHi := by
  unfold opsHead; after_reads_simp; rfl
theorem head_lo (V : RefVal F) : after opsHead V main_call1_call0_v17 = counterLo := by
  unfold opsHead; after_reads_simp; rfl
theorem head_zero (V : RefVal F) :
    after opsHead V main_call1_call0_v2 = broadcastInDim S1x1 ![] bcast_S_S1x1 (constant (F := F) S_ .f32 0x00000000#32) := by
  unfold opsHead; after_reads_simp; rfl
theorem head_one (V : RefVal F) :
    after opsHead V main_call1_call0_v3 = broadcastInDim S1x1 ![] bcast_S_S1x1 (constant (F := F) S_ .f32 0x3F800000#32) := by
  unfold opsHead; after_reads_simp; rfl

theorem key_two (V : RefVal F) : after opsKey V main_call1_call0_call0_v1
    = xori (xori (V main_call1_call0_v5) (V main_call1_call0_v7)) (constantI S_ 32 466688986#32) := by
  unfold opsKey; after_reads_simp; rfl
theorem key_words (V : RefVal F) : (after opsKey V main_call1_call0_call0_v3, after opsKey V main_call1_call0_call0_v5)
    = (addi (V main_call1_call0_v18) (fill (V main_call1_call0_v5)), addi (V main_call1_call0_v17) (fill (V main_call1_call0_v7))) := by
  unfold opsKey; after_reads_simp; rfl

theorem noise_words (V : RefVal F) : after opsNoise V main_call1_call0_v20 = xori (V main_call1_call0_v19_0) (V main_call1_call0_v19_1) := by
  unfold opsNoise; after_reads_simp; rfl
theorem noise_result (V : RefVal F)
    (hz : V main_call1_call0_v2 = broadcastInDim S1x1 ![] bcast_S_S1x1 (constant (F := F) S_ .f32 0x00000000#32))
    (ho : V main_call1_call0_v3 = broadcastInDim S1x1 ![] bcast_S_S1x1 (constant (F := F) S_ .f32 0x3F800000#32)) :
    after opsNoise V main_v27
      = Host.divf (F := F) (s := S128x100000) (φ := .f32) (V main_v17) (noise (xori (V main_call1_call0_v19_0) (V main_call1_call0_v19_1))) := by
  unfold opsNoise noise uniforms; after_reads_simp; rw [hz, ho]; rfl
theorem pick_sampled (V : RefVal F) : after opsPick V main_v28 = rowArg (F := F) (V main_v27) := by
  unfold opsPick; after_reads_simp; rfl
theorem pick_greedy (V : RefVal F) : after opsPick V main_v29 = rowArg (F := F) (V main_arg0) := by
  unfold opsPick; after_reads_simp; rfl
theorem choose_result (V : RefVal F) : after opsChoose V main_v30 = select (V main_v1) (V main_v29) (V main_v28) := by
  unfold opsChoose
  rw [after_cons, after_nil]
  exact ternary_result _ _ _ _ _ _ _ _ _ _

theorem head_to_words (V : RefVal F) :
    let V' := after opsGroup4 (after opsGroup3 (after opsGroup2 (after opsGroup1 (after opsGroup0 (after opsKey (after opsHead V))))))
    (V' main_call1_call0_v19_0, V' main_call1_call0_v19_1) = outWords := by
  intro V'
  have e0 : ∀ V : RefVal F, (after opsKey V) main_call1_call0_v5 = V main_call1_call0_v5 := fun V => opsKey_keep V _ (by decide)
  have e1 : ∀ V : RefVal F, (after opsKey V) main_call1_call0_v7 = V main_call1_call0_v7 := fun V => opsKey_keep V _ (by decide)
  have k0 (r : Ref sig .tc) (h : r ∉ opsGroup0_w) : ∀ V : RefVal F, (after opsGroup0 V) r = V r := fun V => opsGroup0_keep V _ h
  have k1 (r : Ref sig .tc) (h : r ∉ opsGroup1_w) : ∀ V : RefVal F, (after opsGroup1 V) r = V r := fun V => opsGroup1_keep V _ h
  have k2 (r : Ref sig .tc) (h : r ∉ opsGroup2_w) : ∀ V : RefVal F, (after opsGroup2 V) r = V r := fun V => opsGroup2_keep V _ h
  have k3 (r : Ref sig .tc) (h : r ∉ opsGroup3_w) : ∀ V : RefVal F, (after opsGroup3 V) r = V r := fun V => opsGroup3_keep V _ h
  rw [group4, group3, group2, group1, group0, key_words]
  rw [k3 main_call1_call0_call0_v1 (by decide), k2 main_call1_call0_call0_v1 (by decide), k1 main_call1_call0_call0_v1 (by decide),
    k0 main_call1_call0_call0_v1 (by decide), key_two, k3 main_call1_call0_v5 (by decide), k2 main_call1_call0_v7 (by decide),
    k2 main_call1_call0_v5 (by decide), k1 main_call1_call0_v7 (by decide),
    k1 main_call1_call0_v5 (by decide), k0 main_call1_call0_v7 (by decide), k0 main_call1_call0_v5 (by decide), e0, e1, head_key0, head_key1, head_hi, head_lo]
  rfl

/-- What the fold leaves at the result buffer. -/
theorem ops_result (V : RefVal F) : after ops V main_v30 = result (V main_arg0) (V main_arg1) := by
  have kg (r : Ref sig .tc) (h0 : r ∉ opsKey_w ++ opsGroup0_w ++ opsGroup1_w ++ opsGroup2_w ++ opsGroup3_w ++ opsGroup4_w) (V : RefVal F) :
      after opsGroup4 (after opsGroup3 (after opsGroup2 (after opsGroup1 (after opsGroup0 (after opsKey V))))) r = V r := by
    simp only [List.mem_append, not_or] at h0
    obtain ⟨⟨⟨⟨⟨h, h0⟩, h1⟩, h2⟩, h3⟩, h4⟩ := h0
    rw [opsGroup4_keep _ r h4, opsGroup3_keep _ r h3, opsGroup2_keep _ r h2, opsGroup1_keep _ r h1, opsGroup0_keep _ r h0, opsKey_keep _ r h]
  unfold ops
  simp only [StableHlo.after_append]
  rw [choose_result, pick_sampled, pick_greedy, opsPick_keep _ main_v1 (by decide), opsNoise_keep _ main_v1 (by decide),
    opsNoise_keep _ main_arg0 (by decide), noise_result _ (by rw [kg _ (by decide), head_zero]) (by rw [kg _ (by decide), head_one]),
    kg main_v1 (by decide), kg main_arg0 (by decide), kg main_v17 (by decide), head_mask, head_probs, opsHead_keep _ main_arg0 (by decide)]
  have h := head_to_words V
  simp only [Prod.ext_iff] at h
  rw [h.1, h.2]
  rfl

theorem ops_arg0 (V : RefVal F) : after ops V main_arg0 = V main_arg0 := by
  unfold ops
  simp only [StableHlo.after_append]
  rw [opsChoose_keep _ _ (by decide), opsPick_keep _ _ (by decide), opsNoise_keep _ _ (by decide), opsGroup4_keep _ _ (by decide),
    opsGroup3_keep _ _ (by decide), opsGroup2_keep _ _ (by decide), opsGroup1_keep _ _ (by decide), opsGroup0_keep _ _ (by decide),
    opsKey_keep _ _ (by decide), opsHead_keep _ _ (by decide)]

theorem ops_arg1 (V : RefVal F) : after ops V main_arg1 = V main_arg1 := by
  unfold ops
  simp only [StableHlo.after_append]
  rw [opsChoose_keep _ _ (by decide), opsPick_keep _ _ (by decide), opsNoise_keep _ _ (by decide), opsGroup4_keep _ _ (by decide),
    opsGroup3_keep _ _ (by decide), opsGroup2_keep _ _ (by decide), opsGroup1_keep _ _ (by decide), opsGroup0_keep _ _ (by decide),
    opsKey_keep _ _ (by decide), opsHead_keep _ _ (by decide)]

/-- The reference's run: the result buffer holds `result` of the two arguments, the arguments are unchanged. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v30).trans (ops_result _), (h c main_arg0).trans (ops_arg0 _), (h c main_arg1).trans (ops_arg1 _)⟩)
    (run m ρ)

/-- The reference runs, leaves its arguments unchanged and every counter at zero. -/
theorem run_quiescent (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run_result m ρ)

end Cert.ReferenceIdeal.Hand

end
-- ==== Proof.Frames.lean ====
module

public import proofs.«01_k».proof.Defs
public import proofs.«01_k».proof.Proof.Launch
public import proofs.«01_k».proof.Proof.RefRun
public import proofs.«01_k».proof.Proof.Gen.Kernel
public import proofs.«01_k».proof.Proof.Gen.ReferenceIdeal

/-!
  The three frames: each program runs, leaves its arguments unchanged and every counter at zero.
-/

@[expose] public section

set_option maxRecDepth 16384

noncomputable section

namespace Cert.Frames

open Idealize.ShloMosaic Idealize.SL.Sem

/-- The idealized kernel runs, leaves its arguments unchanged and every counter at zero. -/
theorem frame_KernelIdeal : Cert.quiescent_KernelIdeal (hKernelIdeal := Cert.KernelIdeal.Gen.facts) :=
  fun m g _ => Cert.KernelIdeal.Hand.run_quiescent (F := Ideal) m g

/-- The two programs' body tables are one table. -/
theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l p
  match l, p with
  | ⟨0, _⟩, (t, s) => rfl

/-- And so are the tables with the pipelines added. -/
theorem defs_eq : @Cert.Kernel.defs Bits _ Cert.Kernel.Gen.facts = @Cert.KernelIdeal.defs Bits _ Cert.KernelIdeal.Gen.facts := by
  unfold Cert.Kernel.defs Cert.KernelIdeal.defs
  rw [defs₀_eq]; rfl

/-- So does the kernel itself, whose program the idealization left as it is. -/
theorem frame_Kernel : Cert.quiescent_Kernel (hKernel := Cert.Kernel.Gen.facts) := by
  intro m g _
  have h := Cert.KernelIdeal.Hand.run_quiescent (F := Bits) m g
  rw [defs_eq]
  exact h

/-- And so does the reference. -/
theorem frame_ReferenceIdeal : Cert.quiescent_ReferenceIdeal (hReferenceIdeal := Cert.ReferenceIdeal.Gen.facts) :=
  fun m g _ => @Cert.ReferenceIdeal.Hand.run_quiescent Ideal _ Cert.ReferenceIdeal.Gen.facts m g

end Cert.Frames

end
-- ==== Proof.Words.lean ====
module

public import proofs.«01_k».proof.Proof.RefRun
public import proofs.«01_k».proof.Proof.Launch
public import Idealize.ShloMosaic.Lib.Pointwise

/-!
  The random words. One element's word is a function of the element's number alone, `cipher`; the kernel's block and
  the reference's array both hold it.
-/

@[expose] public section

set_option maxRecDepth 20000

namespace Cert.Words

open Idealize.ShloMosaic

/-- A pair of words. -/
abbrev Pair := BitVec 32 × BitVec 32

/-- One round on a pair of words: add, rotate by `a` (`b` being `32 - a`), join. -/
def mix (a b : BitVec 32) (x : Pair) : Pair := (x.1 + x.2, (x.1 + x.2) ^^^ ((x.2 <<< a) ||| (x.2 >>> b)))

/-- One word added to each word of a pair. -/
def inj (k l : BitVec 32) (x : Pair) : Pair := (x.1 + k, x.2 + l)

/-- Four rounds with the first set of rotations. -/
def mixA (x : Pair) : Pair := mix 6#32 26#32 (mix 26#32 6#32 (mix 15#32 17#32 (mix 13#32 19#32 x)))

/-- Four rounds with the second set of rotations. -/
def mixB (x : Pair) : Pair := mix 24#32 8#32 (mix 16#32 16#32 (mix 29#32 3#32 (mix 17#32 15#32 x)))

/-- The pair after the first two groups of rounds, the second cut short of its injection. -/
def cipherTwo (p : BitVec 32) : Pair := mixB (inj 12345#32 466693092#32 (mixA (0, p)))

/-- The pair after four groups of rounds, off the pair after two. -/
def cipherFour (x : Pair) : Pair := mixB (inj 0#32 12348#32 (mixA (inj 466693091#32 2#32 x)))

/-- The pair after five groups of rounds, off the pair after four. -/
def cipherFive (x : Pair) : Pair := inj 466693091#32 5#32 (mixA (inj 12345#32 466693095#32 x))

/-- The random word of the element whose number, with the key's second word added, is `p`. -/
def cipher (p : BitVec 32) : BitVec 32 :=
  (cipherFive (cipherFour (cipherTwo p))).1 ^^^ (cipherFive (cipherFour (cipherTwo p))).2

/-- A pair of sums is the injection of the pair. -/
theorem inj_of {k l a b : BitVec 32} {x : Pair} (h : ((a, b) : Pair) = x) : ((a + k, b + l) : Pair) = inj k l x := by
  subst h; rfl

/-- A shift to the left by less than the width is the plain shift, on any unit. -/
theorem shli_lt (u : ArithUnit) (x y : BitVec 32) (h : y.toNat < 32) : IntOp.shli u x y = x <<< y := if_pos h

/-- A shift to the right by less than the width is the plain shift, on any unit. -/
theorem shrui_lt (u : ArithUnit) (x y : BitVec 32) (h : y.toNat < 32) : IntOp.shrui u x y = x >>> y := if_pos h

end Cert.Words

namespace Cert.KernelIdeal.Hand

open Cert.KernelIdeal Cert.KernelIdeal.Gen Idealize.ShloMosaic Cert.Words

variable {F : FTy → Type} [FloatOps F]

/-- A vector rotation at an index. -/
theorem turn_apply (a b : BitVec 32) (ha : a.toNat < 32) (hb : b.toNat < 32) (x : IVec S128x2048 32) (j : S128x2048.Idx) :
    ori (shli x (broadcast S128x2048 a)) (shrui x (broadcast S128x2048 b)) j = (x j <<< a) ||| (x j >>> b) :=
  congrArg₂ (· ||| ·) (shli_lt _ _ _ ha) (shrui_lt _ _ _ hb)

/-- One round in the kernel is one round at every index. -/
theorem round_apply (a b : BitVec 32) (ha : a.toNat < 32) (hb : b.toNat < 32) (x y s : IVec S128x2048 32)
    (hs : s = addi x y) (j : S128x2048.Idx) :
    ((s j, xori s (ori (shli y (broadcast S128x2048 a)) (shrui y (broadcast S128x2048 b))) j) : Pair) = mix a b (x j, y j) := by
  subst hs
  exact congrArg (Prod.mk _) (congrArg (_ ^^^ ·) (turn_apply a b ha hb y j))

/-- The pair of words the kernel's first group of rounds leaves. -/
theorem groupOne (i : grid0.Coords) (v : Vec F S128x1 .i32) (j : S128x2048.Idx) :
    ((k0_pay20 i v j, k0_pay21 i v j) : Pair) = mixA (0, k0_pay14 i v j) := by
  have h1 : ((k0_pay14 i v j, k0_pay15 i v j) : Pair) = mix 13#32 19#32 (0, k0_pay14 i v j) :=
    (round_apply 13#32 19#32 (by decide) (by decide) (fun _ => 0) (k0_pay14 i v) (k0_pay14 i v)
      (funext fun _ => (BitVec.zero_add _).symm) j)
  have h2 : ((k0_pay16 i v j, k0_pay17 i v j) : Pair) = mix 15#32 17#32 (k0_pay14 i v j, k0_pay15 i v j) :=
    round_apply 15#32 17#32 (by decide) (by decide) _ _ _ rfl j
  have h3 : ((k0_pay18 i v j, k0_pay19 i v j) : Pair) = mix 26#32 6#32 (k0_pay16 i v j, k0_pay17 i v j) :=
    round_apply 26#32 6#32 (by decide) (by decide) _ _ _ rfl j
  have h4 : ((k0_pay20 i v j, k0_pay21 i v j) : Pair) = mix 6#32 26#32 (k0_pay18 i v j, k0_pay19 i v j) :=
    round_apply 6#32 26#32 (by decide) (by decide) _ _ _ rfl j
  rw [h4, h3, h2, h1]; rfl

/-- The pair of words the kernel holds two rounds into its third group, off those its first group leaves. -/
theorem groupTwo (x1 x0 k : IVec S128x2048 32) (j : S128x2048.Idx) :
    ((k0_pay35 x1 x0 k j, k0_pay35 x1 x0 k j ^^^ k0_pay36 x1 x0 k j) : Pair)
      = mix 15#32 17#32 (mix 13#32 19#32 (inj 466693091#32 2#32 (mixB (x0 j, x1 j + k j)))) := by
  have h1 : ((k0_pay25 x1 x0 k j, k0_pay26 x1 x0 k j) : Pair) = mix 17#32 15#32 (x0 j, x1 j + k j) :=
    round_apply 17#32 15#32 (by decide) (by decide) _ _ _ rfl j
  have h2 : ((k0_pay27 x1 x0 k j, k0_pay28 x1 x0 k j) : Pair) = mix 29#32 3#32 (k0_pay25 x1 x0 k j, k0_pay26 x1 x0 k j) :=
    round_apply 29#32 3#32 (by decide) (by decide) _ _ _ rfl j
  have h3 : ((k0_pay29 x1 x0 k j, k0_pay30 x1 x0 k j) : Pair) = mix 16#32 16#32 (k0_pay27 x1 x0 k j, k0_pay28 x1 x0 k j) :=
    round_apply 16#32 16#32 (by decide) (by decide) _ _ _ rfl j
  have h4 : ((k0_pay31 x1 x0 k j + 466693091#32, k0_pay32 x1 x0 k j) : Pair)
      = inj 466693091#32 2#32 (mix 24#32 8#32 (k0_pay29 x1 x0 k j, k0_pay30 x1 x0 k j)) :=
    inj_of (round_apply 24#32 8#32 (by decide) (by decide) (k0_pay29 x1 x0 k) (k0_pay30 x1 x0 k)
      (k0_pay31 x1 x0 k) rfl j)
  have h5 : ((k0_pay33 x1 x0 k j, k0_pay34 x1 x0 k j) : Pair) = mix 13#32 19#32 (k0_pay31 x1 x0 k j + 466693091#32, k0_pay32 x1 x0 k j) :=
    round_apply 13#32 19#32 (by decide) (by decide) (fun j => k0_pay31 x1 x0 k j + 466693091#32) (k0_pay32 x1 x0 k) (k0_pay33 x1 x0 k) rfl j
  have h6 : ((k0_pay35 x1 x0 k j, k0_pay35 x1 x0 k j ^^^ k0_pay36 x1 x0 k j) : Pair)
      = mix 15#32 17#32 (k0_pay33 x1 x0 k j, k0_pay34 x1 x0 k j) :=
    round_apply 15#32 17#32 (by decide) (by decide) (k0_pay33 x1 x0 k) (k0_pay34 x1 x0 k) (k0_pay35 x1 x0 k) rfl j
  rw [h6, h5, h4, h3, h2, h1]; rfl

/-- The pair of words the kernel's fourth group of rounds leaves, off those two rounds into its third. -/
theorem groupFour (y1 y0 : IVec S128x2048 32) (j : S128x2048.Idx) :
    ((k0_pay48 y1 y0 j, k0_pay48 y1 y0 j ^^^ k0_pay49 y1 y0 j) : Pair)
      = mixB (inj 0#32 12348#32 (mix 6#32 26#32 (mix 26#32 6#32 (y1 j, y1 j ^^^ y0 j)))) := by
  have h1 : ((k0_pay38 y1 y0 j, k0_pay39 y1 y0 j) : Pair) = mix 26#32 6#32 (y1 j, y1 j ^^^ y0 j) :=
    round_apply 26#32 6#32 (by decide) (by decide) y1 (k0_pay37 y1 y0) _ rfl j
  have h2 : ((k0_pay40 y1 y0 j + 0, k0_pay41 y1 y0 j) : Pair) = inj 0#32 12348#32 (mix 6#32 26#32 (k0_pay38 y1 y0 j, k0_pay39 y1 y0 j)) :=
    inj_of (round_apply 6#32 26#32 (by decide) (by decide) (k0_pay38 y1 y0) (k0_pay39 y1 y0) (k0_pay40 y1 y0) rfl j)
  have h3 : ((k0_pay42 y1 y0 j, k0_pay43 y1 y0 j) : Pair) = mix 17#32 15#32 (k0_pay40 y1 y0 j + 0, k0_pay41 y1 y0 j) :=
    round_apply 17#32 15#32 (by decide) (by decide) (fun j => k0_pay40 y1 y0 j + 0) (k0_pay41 y1 y0) (k0_pay42 y1 y0) rfl j
  have h4 : ((k0_pay44 y1 y0 j, k0_pay45 y1 y0 j) : Pair) = mix 29#32 3#32 (k0_pay42 y1 y0 j, k0_pay43 y1 y0 j) :=
    round_apply 29#32 3#32 (by decide) (by decide) _ _ _ rfl j
  have h5 : ((k0_pay46 y1 y0 j, k0_pay47 y1 y0 j) : Pair) = mix 16#32 16#32 (k0_pay44 y1 y0 j, k0_pay45 y1 y0 j) :=
    round_apply 16#32 16#32 (by decide) (by decide) _ _ _ rfl j
  have h6 : ((k0_pay48 y1 y0 j, k0_pay48 y1 y0 j ^^^ k0_pay49 y1 y0 j) : Pair) = mix 24#32 8#32 (k0_pay46 y1 y0 j, k0_pay47 y1 y0 j) :=
    round_apply 24#32 8#32 (by decide) (by decide) (k0_pay46 y1 y0) (k0_pay47 y1 y0) (k0_pay48 y1 y0) rfl j
  rw [h6, h5, h4, h3, h2, h1]; rfl

/-- The variate a random word gives in the kernel: two less the number the word's high bits make between one and two. -/
noncomputable def variate (w : BitVec 32) : F .f32 :=
  FloatOps.subf (FloatOps.ofBits .f32 0x40000000#32) (FloatOps.ofBits .f32 ((w >>> 9#32) ||| 1065353216#32))

/-- One round on a pair of blocks. -/
def blockMix (a b : BitVec 32) (x : IVec S128x2048 32 × IVec S128x2048 32) : IVec S128x2048 32 × IVec S128x2048 32 :=
  (addi x.1 x.2, xori (addi x.1 x.2) (ori (shli x.2 (broadcast S128x2048 a)) (shrui x.2 (broadcast S128x2048 b))))

/-- One word added to each block of a pair. -/
def blockInj (k l : BitVec 32) (x : IVec S128x2048 32 × IVec S128x2048 32) : IVec S128x2048 32 × IVec S128x2048 32 :=
  (addi x.1 (broadcast S128x2048 k), addi x.2 (broadcast S128x2048 l))

/-- The last group of rounds on a pair of blocks. -/
def blockFive (x : IVec S128x2048 32 × IVec S128x2048 32) : IVec S128x2048 32 × IVec S128x2048 32 :=
  blockInj 466693091#32 5#32 (blockMix 6#32 26#32 (blockMix 26#32 6#32 (blockMix 15#32 17#32 (blockMix 13#32 19#32
    (blockInj 12345#32 466693095#32 x)))))

theorem blockMix_apply (a b : BitVec 32) (ha : a.toNat < 32) (hb : b.toNat < 32) (x : IVec S128x2048 32 × IVec S128x2048 32)
    (j : S128x2048.Idx) : (((blockMix a b x).1 j, (blockMix a b x).2 j) : Pair) = mix a b (x.1 j, x.2 j) :=
  round_apply a b ha hb x.1 x.2 _ rfl j

theorem blockInj_apply (k l : BitVec 32) (x : IVec S128x2048 32 × IVec S128x2048 32)
    (j : S128x2048.Idx) : (((blockInj k l x).1 j, (blockInj k l x).2 j) : Pair) = inj k l (x.1 j, x.2 j) := rfl

/-- The last group of rounds at an index. -/
theorem blockFive_apply (x : IVec S128x2048 32 × IVec S128x2048 32) (j : S128x2048.Idx) :
    (((blockFive x).1 j, (blockFive x).2 j) : Pair) = cipherFive (x.1 j, x.2 j) := by
  unfold blockFive cipherFive mixA
  rw [blockInj_apply, blockMix_apply _ _ (by decide) (by decide), blockMix_apply _ _ (by decide) (by decide),
    blockMix_apply _ _ (by decide) (by decide), blockMix_apply _ _ (by decide) (by decide), blockInj_apply]

/-- The kernel's variates off the words before its last group of rounds. -/
theorem pay50_eq (a b : IVec S128x2048 32) :
    k0_pay50 (F := F) a b = subf (broadcast S128x2048 (Scalar.ofBits .f32 0x40000000#32)) (bitcastToFloat .f32
      (ori (shrui (xori (blockFive (a, xori a b)).1 (blockFive (a, xori a b)).2) (broadcast S128x2048 9#32))
        (broadcast S128x2048 1065353216#32))) := rfl

/-- The kernel's last group of rounds and the variate off its words. -/
theorem groupFive (a b : IVec S128x2048 32) (j : S128x2048.Idx) :
    k0_pay50 (F := F) a b j = variate ((cipherFive (a j, a j ^^^ b j)).1 ^^^ (cipherFive (a j, a j ^^^ b j)).2) := by
  have h := blockFive_apply (a, xori a b) j
  have h' : ((blockFive (a, xori a b)).1 j, (blockFive (a, xori a b)).2 j) = cipherFive (a j, a j ^^^ b j) := h
  rw [← h', pay50_eq]
  generalize blockFive (a, xori a b) = p
  exact congrArg (fun w => FloatOps.subf (FloatOps.ofBits .f32 0x40000000#32) (FloatOps.ofBits .f32 (w ||| 1065353216#32)))
    (shrui_lt .vector (p.1 j ^^^ p.2 j) 9#32 (by decide))

/-- An element's variate in the kernel is that of its number's random word. -/
theorem unif_apply (i : grid0.Coords) (v : Vec F S128x1 .i32) (j : S128x2048.Idx) :
    unif (F := F) i v j = variate (cipher (k0_pay14 i v j)) := by
  unfold unif
  rw [groupFive, groupFour, groupTwo]
  have h : ((k0_pay22 i v j, k0_pay21 i v j + k0_pay23 j) : Pair) = inj 12345#32 466693092#32 (mixA (0, k0_pay14 i v j)) :=
    congrArg (inj 12345#32 466693092#32) (groupOne i v j)
  rw [h]; rfl

end Cert.KernelIdeal.Hand

namespace Cert.ReferenceIdeal.Hand

open Cert.ReferenceIdeal Idealize.ShloMosaic Cert.Words

variable {F : FTy → Type} [FloatOps F] [Facts]

/-- A pair of arrays read at one index. -/
def at' (x : Words) (i : S128x100000.Idx) : Pair := (x.1 i, x.2 i)

/-- One round in the reference is one round at every index. -/
theorem rnd_at (a b : BitVec 32) (ha : a.toNat < 32) (hb : b.toNat < 32) (x : Words) (i : S128x100000.Idx) :
    at' (rnd a b x) i = mix a b (at' x i) :=
  congrArg (Prod.mk _) (congrArg (_ ^^^ ·) (congrArg₂ (· ||| ·) (shli_lt _ _ _ ha) (shrui_lt _ _ _ hb)))

theorem roundsA_at (x : Words) (i : S128x100000.Idx) : at' (roundsA x) i = mixA (at' x i) := by
  unfold roundsA mixA
  rw [rnd_at _ _ (by decide) (by decide), rnd_at _ _ (by decide) (by decide), rnd_at _ _ (by decide) (by decide),
    rnd_at _ _ (by decide) (by decide)]; rfl

theorem roundsB_at (x : Words) (i : S128x100000.Idx) : at' (roundsB x) i = mixB (at' x i) := by
  unfold roundsB mixB
  rw [rnd_at _ _ (by decide) (by decide), rnd_at _ _ (by decide) (by decide), rnd_at _ _ (by decide) (by decide),
    rnd_at _ _ (by decide) (by decide)]; rfl

/-- A key injection at an index, the second key word and the count as one word. -/
theorem inject_at (k l : IVec S_ 32) (n k' l' : BitVec 32) (hk : ∀ z, k z = k') (hl : ∀ z, l z + n = l') (x : Words)
    (i : S128x100000.Idx) : at' (inject k l n x) i = inj k' l' (at' x i) := by
  refine Prod.ext (congrArg (_ + ·) (hk _)) ?_
  exact (BitVec.add_assoc _ _ _).trans (congrArg (_ + ·) (hl _))

theorem key0_apply (z : S_.Idx) : key0 z = 0 := by
  simp [key0, keyPair, pointwise]; rfl

theorem key1_apply (z : S_.Idx) : key1 z = 12345#32 := by
  simp [key1, keyPair, pointwise]; rfl

theorem key2_apply (z : S_.Idx) : key2 z = 466693091#32 := by
  have h : key2 z = (key0 z ^^^ key1 z) ^^^ 466688986#32 := rfl
  rw [h, key0_apply, key1_apply]; decide

/-- An element's number. -/
theorem counter_toNat (i : S128x100000.Idx) : (counter i).toNat = 100000 * (i 0).val + (i 1).val := by
  have h0 : (i 0).val < 128 := (i 0).isLt
  have h1 : (i 1).val < 100000 := (i 1).isLt
  have h : counter i = 100000#64 * BitVec.ofNat 64 (i 0).val + 1#64 * BitVec.ofNat 64 (i 1).val := rfl
  rw [h]
  simp only [BitVec.toNat_add, BitVec.toNat_mul, BitVec.toNat_ofNat]
  omega

/-- An element's number has a zero high half. -/
theorem counterHi_apply (i : S128x100000.Idx) : counterHi i = 0 := by
  have h0 : (i 0).val < 128 := (i 0).isLt
  have h1 : (i 1).val < 100000 := (i 1).isLt
  have hc : (counter i).toNat < 2 ^ 32 := by rw [counter_toNat]; omega
  have h : counterHi i = ((counter i) >>> 32#64).setWidth 32 :=
    congrArg (BitVec.setWidth 32) (show IntOp.shrui .host (counter i) 32#64 = _ from if_pos (by decide))
  rw [h]
  apply BitVec.eq_of_toNat_eq
  simp only [BitVec.toNat_setWidth, BitVec.ushiftRight_eq', BitVec.toNat_ushiftRight, BitVec.toNat_ofNat]
  rw [Nat.shiftRight_eq_div_pow, Nat.div_eq_of_lt (by simpa using hc)]; rfl

theorem counterLo_apply (i : S128x100000.Idx) : counterLo i = BitVec.ofNat 32 (100000 * (i 0).val + (i 1).val) := by
  have h : counterLo i = (counter i).setWidth 32 := rfl
  rw [h]
  apply BitVec.eq_of_toNat_eq
  rw [BitVec.toNat_setWidth, BitVec.toNat_ofNat, counter_toNat]

/-- An element's random word in the reference. -/
theorem word_apply (i : S128x100000.Idx) :
    xori outWords.1 outWords.2 i = cipher (BitVec.ofNat 32 (100000 * (i 0).val + (i 1).val) + 12345#32) := by
  have h0 : at' startWords i = (0, BitVec.ofNat 32 (100000 * (i 0).val + (i 1).val) + 12345#32) := by
    refine Prod.ext ?_ ?_
    · exact (congrArg₂ (· + ·) (counterHi_apply i) (key0_apply _)).trans (BitVec.zero_add _)
    · exact congrArg₂ (· + ·) (counterLo_apply i) (key1_apply _)
  have h : at' outWords i = cipherFive (cipherFour (cipherTwo (BitVec.ofNat 32 (100000 * (i 0).val + (i 1).val) + 12345#32))) := by
    unfold outWords cipherFive cipherFour cipherTwo
    rw [inject_at key2 key0 5 466693091#32 5#32 key2_apply (fun z => by rw [key0_apply]; decide), roundsA_at,
      inject_at key1 key2 4 12345#32 466693095#32 key1_apply (fun z => by rw [key2_apply]; decide), roundsB_at,
      inject_at key0 key1 3 0#32 12348#32 key0_apply (fun z => by rw [key1_apply]; decide), roundsA_at,
      inject_at key2 key0 2 466693091#32 2#32 key2_apply (fun z => by rw [key0_apply]; decide), roundsB_at,
      inject_at key1 key2 1 12345#32 466693092#32 key1_apply (fun z => by rw [key2_apply]; decide), roundsA_at, h0]
  exact congrArg (fun p : Pair => p.1 ^^^ p.2) h

end Cert.ReferenceIdeal.Hand
-- ==== Proof.Scalar.lean ====
module

public import Idealize.ShloMosaic.PureOps.Ideal.Laws
public import Idealize.ShloMosaic.Lib.IdealHost

/-!
  The scalar mathematics: the noise of one random word, the order of one row's scores against the order of its
  probabilities over the noise, and the first greatest element of a row, kept block by block.
-/

@[expose] public section

namespace Cert.Scalar

open Idealize.ShloMosaic

/-! ### The noise of one word -/

/-- The number a word's high 23 bits make as the fraction of a float between one and two. -/
noncomputable def unit (w : BitVec 32) : EReal := Ideal.ofBits .f32 ((w >>> 9#32) ||| 1065353216#32)

theorem unit_eq (w : BitVec 32) : ∃ u : ℝ, 0 ≤ u ∧ u < 1 ∧ unit w = ((1 + u : ℝ) : EReal) := by
  obtain ⟨f, hf, hw⟩ : ∃ f : ℕ, f < 2 ^ 23 ∧ ((w >>> 9#32) ||| 1065353216#32 : BitVec 32).toNat = 127 * 2 ^ 23 + f := by
    refine ⟨w.toNat / 512, by have := w.isLt; omega, ?_⟩
    have hlt : w.toNat / 512 < 2 ^ 23 := by have := w.isLt; omega
    have h := Nat.two_pow_add_eq_or_of_lt (i := 23) hlt 127
    rw [BitVec.toNat_or, BitVec.ushiftRight_eq', BitVec.toNat_ushiftRight, Nat.shiftRight_eq_div_pow, Nat.or_comm,
      Nat.mul_comm 127]
    exact h.symm
  refine ⟨f / 2 ^ 23, by positivity, ?_, ?_⟩
  · rw [div_lt_one (by positivity)]; exact_mod_cast hf
  · unfold unit Ideal.ofBits Ideal.ieee
    have hn : (((w >>> 9#32) ||| 1065353216#32 : BitVec 32).extractLsb' (8 + 23) 1 == 1#1) = false := by
      rw [beq_eq_false_iff_ne]
      intro h
      have := congrArg BitVec.toNat h
      rw [BitVec.extractLsb'_toNat, hw, Nat.shiftRight_eq_div_pow] at this
      simp only [BitVec.toNat_ofNat] at this
      omega
    have he : (((w >>> 9#32) ||| 1065353216#32 : BitVec 32).extractLsb' 23 8).toNat = 127 := by
      rw [BitVec.extractLsb'_toNat, hw, Nat.shiftRight_eq_div_pow]; omega
    have hr : (((w >>> 9#32) ||| 1065353216#32 : BitVec 32).extractLsb' 0 23).toNat = f := by
      rw [BitVec.extractLsb'_toNat, hw, Nat.shiftRight_eq_div_pow]; omega
    simp only [hn, he, hr]
    norm_num [-EReal.coe_mul, -EReal.coe_add]
    ring

/-- The least noise is a positive number. -/
theorem least_eq : ∃ c : ℝ, 0 < c ∧ Ideal.ofBits .f32 0x2EDBE6FF#32 = (c : EReal) := by
  refine ⟨_, ?_, by simp [Ideal.ofBits, Ideal.ieee, -EReal.coe_mul]; rfl⟩
  positivity

theorem two_eq : Ideal.ofBits .f32 0x40000000#32 = ((2 : ℝ) : EReal) := by
  simp [Ideal.ofBits, Ideal.ieee, -EReal.coe_mul]; norm_num

theorem bot_eq : Ideal.ofBits .f32 0xFF800000#32 = ⊥ := by
  simp [Ideal.ofBits, Ideal.ieee]

theorem top_eq : Ideal.ofBits .f32 0x7F800000#32 = ⊤ := by
  simp [Ideal.ofBits, Ideal.ieee]

/-- The exponential noise as the reference takes it. -/
noncomputable def refNoise (w : BitVec 32) : EReal :=
  max (Ideal.ofBits .f32 0x2EDBE6FF#32) (-Ideal.log1p (-max 0 ((unit w - 1) * (1 - 0) + 0)))

/-- The Gumbel noise as the kernel takes it. -/
noncomputable def kerNoise (w : BitVec 32) : EReal :=
  0 - Ideal.log (max (0 - Ideal.log (Ideal.ofBits .f32 0x40000000#32 - unit w)) (Ideal.ofBits .f32 0x2EDBE6FF#32))

/-- The greater of two numbers, in the extended reals. -/
theorem coe_max (a b : ℝ) : ((max a b : ℝ) : EReal) = max (a : EReal) (b : EReal) := EReal.coe_strictMono.monotone.map_max

/-- The reference's noise is a positive number, and the kernel's is minus its logarithm. -/
theorem noise_eq (w : BitVec 32) :
    ∃ e : ℝ, 0 < e ∧ refNoise w = (e : EReal) ∧ kerNoise w = ((-Real.log e : ℝ) : EReal) := by
  obtain ⟨u, h0, h1, hu⟩ := unit_eq w
  obtain ⟨c, hc, hce⟩ := least_eq
  have hpos : ¬ (1 - u : ℝ) ≤ 0 := by linarith
  refine ⟨max c (-Real.log (1 - u)), lt_max_of_lt_left hc, ?_, ?_⟩
  · unfold refNoise
    have h2 : (((1 + u : ℝ) : EReal) - 1) * (1 - 0) + 0 = (u : EReal) := by
      have : (((1 + u : ℝ) : EReal) - 1) = (u : EReal) := by
        rw [← EReal.coe_one, ← EReal.coe_sub]; congr 1; ring
      rw [this, sub_zero, mul_one, add_zero]
    have h3 : Ideal.log1p (-(u : EReal)) = ((Real.log (1 - u) : ℝ) : EReal) := by
      unfold Ideal.log1p
      rw [← EReal.coe_neg, ← EReal.coe_one, ← EReal.coe_add, ← sub_eq_add_neg, Ideal.log_coe, if_neg hpos]
    rw [hu, hce, h2, max_eq_right (a := (0 : EReal)) (by exact_mod_cast h0), h3, ← EReal.coe_neg]
    exact (coe_max _ _).symm
  · unfold kerNoise
    have h2 : ((2 : ℝ) : EReal) - ((1 + u : ℝ) : EReal) = ((1 - u : ℝ) : EReal) := by
      rw [← EReal.coe_sub]; congr 1; ring
    have hm : ¬ max (-Real.log (1 - u)) c ≤ 0 := not_le.2 (lt_max_of_lt_right hc)
    rw [hu, hce, two_eq, h2, Ideal.log_coe, if_neg hpos, zero_sub, zero_sub, ← EReal.coe_neg, ← coe_max, Ideal.log_coe,
      if_neg hm, ← EReal.coe_neg, max_comm]

/-! ### One row -/

/-- A finite sum of numbers, in the extended reals. -/
theorem coe_sum {N : ℕ} (y : Fin N → ℝ) : ((∑ c, y c : ℝ) : EReal) = ∑ c, (y c : EReal) :=
  map_sum (⟨⟨Real.toEReal, EReal.coe_zero⟩, EReal.coe_add⟩ : ℝ →+ EReal) y Finset.univ

/-- The order of a row's probabilities over the noise is the order of its scores. No scaled logit is `⊤`, `m` is their
    greatest, `e` is the positive noise. -/
theorem order_iff {N : ℕ} (x : Fin N → EReal) (hx : ∀ c, x c ≠ ⊤) (m : EReal) (hm : ∀ c, x c ≤ m) (hm' : ∃ c, x c = m)
    (e : Fin N → ℝ) (he : ∀ c, 0 < e c) (a b : Fin N) :
    Ideal.div (Ideal.div (Ideal.exp (x a - m)) (∑ c, Ideal.exp (x c - m))) (e a)
        < Ideal.div (Ideal.div (Ideal.exp (x b - m)) (∑ c, Ideal.exp (x c - m))) (e b)
      ↔ x a + ((-Real.log (e a) : ℝ) : EReal) < x b + ((-Real.log (e b) : ℝ) : EReal) := by
  obtain ⟨c₀, hc₀⟩ := hm'
  have hmt : m ≠ ⊤ := hc₀ ▸ hx c₀
  induction m using EReal.rec with
  | top => exact absurd rfl hmt
  | bot =>
    have hb (c : Fin N) : x c = ⊥ := le_bot_iff.1 (hm c)
    have hd (c : Fin N) : Ideal.div ⊥ ((e c : ℝ) : EReal) = ⊥ := by
      rw [Ideal.div_coe (he c).ne', EReal.bot_mul_coe_of_pos (by have := he c; positivity)]
    have h0 : Ideal.div 0 0 = ⊥ := by simp [Ideal.div]
    simp only [hb, EReal.bot_sub, Ideal.exp_bot, Finset.sum_const_zero, h0, hd, EReal.bot_add, lt_self_iff_false]
  | coe M =>
    -- the exponentials as numbers
    let y : Fin N → ℝ := fun c => if x c = ⊥ then 0 else Real.exp ((x c).toReal - M)
    have hy (c : Fin N) : Ideal.exp (x c - (M : EReal)) = (y c : EReal) := by
      by_cases h : x c = ⊥
      · simp [y, h, EReal.bot_sub]
      · have hr : ((x c).toReal : EReal) = x c := EReal.coe_toReal (hx c) h
        rw [← hr, ← EReal.coe_sub, Ideal.exp_coe]
        simp [y, h]
    have hy0 (c : Fin N) : 0 ≤ y c := by
      by_cases h : x c = ⊥
      · simp [y, h]
      · simp only [y, if_neg h]; positivity
    have hS : ∑ c, Ideal.exp (x c - (M : EReal)) = ((∑ c, y c : ℝ) : EReal) := by
      rw [coe_sum]; exact Finset.sum_congr rfl fun c _ => hy c
    have hSpos : 0 < ∑ c, y c := by
      refine Finset.sum_pos' (fun c _ => hy0 c) ⟨c₀, Finset.mem_univ _, ?_⟩
      have : x c₀ ≠ ⊥ := by rw [hc₀]; exact EReal.coe_ne_bot M
      simp only [y, if_neg this]; positivity
    have hq (c : Fin N) : Ideal.div (Ideal.div (Ideal.exp (x c - (M : EReal))) (∑ c, Ideal.exp (x c - (M : EReal)))) (e c)
        = ((y c / (∑ c, y c) / e c : ℝ) : EReal) := by
      rw [hy, hS, Ideal.div_coe hSpos.ne', Ideal.div_coe (he c).ne', ← EReal.coe_mul, ← EReal.coe_mul]
      congr 1; ring
    have hz (c : Fin N) (h : x c ≠ ⊥) : y c / (∑ c, y c) / e c = Real.exp ((x c).toReal - Real.log (e c)) * (Real.exp (-M) / ∑ c, y c) := by
      simp only [y, if_neg h]
      rw [sub_eq_add_neg, Real.exp_add, Real.exp_sub, Real.exp_log (he c)]
      field_simp
    have hk : 0 < Real.exp (-M) / ∑ c, y c := by positivity
    rw [hq, hq, EReal.coe_lt_coe_iff]
    by_cases ha : x a = ⊥
    · have hya : y a = 0 := by simp [y, ha]
      by_cases hb : x b = ⊥
      · have hyb : y b = 0 := by simp [y, hb]
        simp [ha, hb, hya, hyb]
      · have hr : ((x b).toReal : EReal) = x b := EReal.coe_toReal (hx b) hb
        rw [ha, hya, hz b hb, ← hr, ← EReal.coe_add]
        simp only [zero_div, EReal.bot_add, EReal.bot_lt_coe, iff_true]
        positivity
    · by_cases hb : x b = ⊥
      · have hyb : y b = 0 := by simp [y, hb]
        rw [hb, hyb, hz a ha]
        simp only [zero_div, EReal.bot_add, not_lt_bot, iff_false, not_lt]
        positivity
      · have hr : ((x b).toReal : EReal) = x b := EReal.coe_toReal (hx b) hb
        have hr' : ((x a).toReal : EReal) = x a := EReal.coe_toReal (hx a) ha
        rw [hz a ha, hz b hb, ← hr, ← hr', ← EReal.coe_add, ← EReal.coe_add, EReal.coe_lt_coe_iff,
          mul_lt_mul_iff_left₀ hk, Real.exp_lt_exp]
        simp [sub_eq_add_neg]

/-- The score the kernel gives a logit, off its row's temperature and its word. -/
noncomputable def score (l t : EReal) (w : BitVec 32) : EReal :=
  l * Ideal.div 1 (if t ≤ Ideal.ofBits .f32 0x2EDBE6FF#32 then 1 else t)
    + kerNoise w * (if t ≤ Ideal.ofBits .f32 0x2EDBE6FF#32 then 0 else 1)

/-- A logit that is not `⊤` over a positive temperature is not `⊤`. -/
theorem div_ne_top (l t : EReal) (hl : l < ⊤) (ht : 0 < t) : Ideal.div l t ≠ ⊤ := by
  induction t using EReal.rec with
  | bot => exact absurd ht not_lt_bot
  | top => simp [Ideal.div]
  | coe t =>
    have ht : 0 < t := by exact_mod_cast ht
    rw [Ideal.div_coe ht.ne']
    induction l using EReal.rec with
    | bot => rw [EReal.bot_mul_coe_of_pos (by positivity)]; exact bot_ne_top
    | top => exact absurd hl (lt_irrefl _)
    | coe l => rw [← EReal.coe_mul]; exact EReal.coe_ne_top _

/-- One bit, `1` where the proposition holds, picks between two values. -/
theorem pick_ofBool {α : Type} (p : Prop) [Decidable p] (a b : α) : Scalar.select (BitVec.ofBool (decide p)) a b = if p then a else b := by
  by_cases h : p <;> simp [h, Scalar.select]

/-! ### The first greatest element -/

/-- `o` is the first place of the greatest value of `f` on the places from `a` to below `b`. -/
def FirstMax (f : ℕ → EReal) (a b o : ℕ) : Prop :=
  a ≤ o ∧ o < b ∧ (∀ c, a ≤ c → c < b → f c ≤ f o) ∧ ∀ c, a ≤ c → c < o → f c < f o

theorem FirstMax.unique {f : ℕ → EReal} {a b o o' : ℕ} (h : FirstMax f a b o) (h' : FirstMax f a b o') : o = o' := by
  rcases lt_trichotomy o o' with hlt | heq | hlt
  · exact absurd (h'.2.2.2 o h.1 hlt) (not_lt.2 (h.2.2.1 o' h'.1 h'.2.1))
  · exact heq
  · exact absurd (h.2.2.2 o' h'.1 hlt) (not_lt.2 (h'.2.2.1 o h.1 h.2.1))

/-- The next stretch's greatest value is greater than all before it: its first place is the first place of all. -/
theorem FirstMax.take {f : ℕ → EReal} {a b c o o' : ℕ} (h : FirstMax f a b o) (h' : FirstMax f b c o') (hlt : f o < f o') :
    FirstMax f a c o' := by
  have := h.1; have := h.2.1; have := h'.1; have := h'.2.1
  refine ⟨by omega, h'.2.1, fun d hd hd' => ?_, fun d hd hd' => ?_⟩
  · by_cases hdb : d < b
    · exact (h.2.2.1 d hd hdb).trans hlt.le
    · exact h'.2.2.1 d (not_lt.1 hdb) hd'
  · by_cases hdb : d < b
    · exact (h.2.2.1 d hd hdb).trans_lt hlt
    · exact h'.2.2.2 d (not_lt.1 hdb) hd'

/-- The next stretch has nothing greater: the first place stays. -/
theorem FirstMax.keep {f : ℕ → EReal} {a b c o o' : ℕ} (h : FirstMax f a b o) (h' : FirstMax f b c o') (hle : ¬ f o < f o') :
    FirstMax f a c o := by
  have := h.1; have := h.2.1; have := h'.1; have := h'.2.1
  refine ⟨h.1, by omega, fun d hd hd' => ?_, h.2.2.2⟩
  by_cases hdb : d < b
  · exact h.2.2.1 d hd hdb
  · exact (h'.2.2.1 d (not_lt.1 hdb) hd').trans (not_lt.1 hle)

/-- Values in the same order have the same first greatest place. -/
theorem FirstMax.congr {f g : ℕ → EReal} {a b o : ℕ}
    (hfg : ∀ c d, c < b → d < b → (f c < f d ↔ g c < g d)) (h : FirstMax f a b o) : FirstMax g a b o :=
  ⟨h.1, h.2.1, fun c hc hc' => not_lt.1 fun hlt => absurd ((hfg o c h.2.1 hc').2 hlt) (not_lt.2 (h.2.2.1 c hc hc')),
    fun c hc hc' => (hfg c o (hc'.trans h.2.1) h.2.1).1 (h.2.2.2 c hc hc')⟩

/-- Past `b` there is only `⊥`: the first greatest place is before `b`. -/
theorem FirstMax.shrink {f : ℕ → EReal} {b b' o : ℕ} (hb : 0 < b) (hbb : b ≤ b') (hf : ∀ c, b ≤ c → f c = ⊥)
    (h : FirstMax f 0 b' o) : FirstMax f 0 b o := by
  have hob : o < b := by
    by_contra hn
    have := h.2.2.2 0 le_rfl (by omega)
    rw [hf o (not_lt.1 hn)] at this
    exact not_lt_bot this
  exact ⟨h.1, hob, fun c hc hc' => h.2.2.1 c hc (by omega), h.2.2.2⟩

/-! ### A fold that keeps the better -/

/-- A fold whose step keeps one of its two operands, the better in a transitive relation, ends with its start or an
    element, no worse than any. -/
theorem foldl_best {α β : Type} (g : β → α) (f : α → α → α) (R : α → α → Prop) (P : α → Prop)
    (hrefl : ∀ a, R a a) (htrans : ∀ a b c, R a b → R b c → R a c)
    (hsel : ∀ a b, P a → P b → (f a b = a ∨ f a b = b) ∧ R a (f a b) ∧ R b (f a b))
    (L : List β) (z : α) (hz : P z) (hL : ∀ b ∈ L, P (g b)) :
    (L.foldl (fun r b => f r (g b)) z = z ∨ ∃ b ∈ L, L.foldl (fun r b => f r (g b)) z = g b)
      ∧ R z (L.foldl (fun r b => f r (g b)) z) ∧ ∀ b ∈ L, R (g b) (L.foldl (fun r b => f r (g b)) z) := by
  induction L generalizing z with
  | nil => exact ⟨.inl rfl, hrefl z, fun b hb => absurd hb List.not_mem_nil⟩
  | cons b L ih =>
    obtain ⟨hs, h1, h2⟩ := hsel z (g b) hz (hL b List.mem_cons_self)
    have hP : P (f z (g b)) := by
      rcases hs with h | h <;> rw [h]
      exacts [hz, hL b List.mem_cons_self]
    obtain ⟨i1, i2, i3⟩ := ih (f z (g b)) hP fun c hc => hL c (List.mem_cons_of_mem _ hc)
    simp only [List.foldl_cons]
    refine ⟨?_, htrans _ _ _ h1 i2, fun c hc => ?_⟩
    · rcases i1 with i1 | ⟨c, hc, i1⟩
      · rcases hs with h | h
        · exact .inl (i1.trans h)
        · exact .inr ⟨b, List.mem_cons_self, i1.trans h⟩
      · exact .inr ⟨c, List.mem_cons_of_mem _ hc, i1⟩
    · rcases List.mem_cons.1 hc with rfl | hc
      · exact htrans _ _ _ h2 i2
      · exact i3 c hc

end Cert.Scalar
-- ==== Proof.RefValue.lean ====
module

public import proofs.«01_k».proof.Proof.Words
public import proofs.«01_k».proof.Proof.Scalar
public import Idealize.ShloMosaic.Lib.ValueIdxCoords

/-!
  The reference's result at the ideal floats, row by row: its argmax is the first greatest element of the row, its
  probabilities over the noise are the scalar terms of Scalar.lean.
-/

@[expose] public section

set_option maxRecDepth 20000

namespace Cert.ReferenceIdeal.Hand

open Cert.ReferenceIdeal Idealize.ShloMosaic Cert.Words Cert.Scalar
open Facts₀ Facts

/-- A row's scores, past its end `⊥`. -/
noncomputable def scores (l : FVec Ideal S128x100000 .f32) (t : FVec Ideal S128 .f32) (r : Fin 128) (c : ℕ) : EReal :=
  if h : c < 100000 then
    score (l (ValueIdx.ix2 r ⟨c, h⟩)) (t (ValueIdx.ix1 r)) (cipher (BitVec.ofNat 32 (100000 * r.val + c) + 12345#32))
  else ⊥

variable [Facts]

/-- A row of an array, past its end `⊥`. -/
noncomputable def row (x : FVec Ideal S128x100000 .f32) (r : Fin 128) (c : ℕ) : EReal :=
  if h : c < 100000 then x (ValueIdx.ix2 r ⟨c, h⟩) else ⊥

theorem reduces_row : S128x100000.Reduces [1] S128 := by decide

/-- The elements that reduce to a row are the row's. -/
theorem drop_iff (i : S128x100000.Idx) (r : Fin 128) : reducesTo_S128x100000_S128_d1.drop i = ValueIdx.ix1 r ↔ i 0 = r := by
  have hv : ((reducesTo_S128x100000_S128_d1.drop i) 0).val = (i 0).val := rfl
  constructor
  · intro h
    rw [h] at hv
    exact Fin.ext hv.symm
  · intro h
    funext b
    obtain rfl : b = 0 := Fin.fin_one_eq_zero b
    exact Fin.ext (hv.trans (congrArg Fin.val h))

theorem ix2_eta (i : S128x100000.Idx) : i = ValueIdx.ix2 (i 0) (i 1) := by
  funext b
  match b with
  | ⟨0, _⟩ => rfl
  | ⟨1, _⟩ => rfl

/-- The second pair of a value and a place is no worse than the first: greater, or as great and no later. -/
def NoWorse (a b : Ideal .f32 × BitVec 32) : Prop := a.1 < b.1 ∨ (a.1 = b.1 ∧ b.2.toNat ≤ a.2.toNat)

/-- One step of the reference's argmax keeps the better of its two pairs. -/
theorem argmax_step (a b : Ideal .f32 × BitVec 32) (ha : a.2.toNat < 2 ^ 31) (hb : b.2.toNat < 2 ^ 31) :
    (reducer_argmax_f32_i32 (F := Ideal) a b = a ∨ reducer_argmax_f32_i32 (F := Ideal) a b = b)
      ∧ NoWorse a (reducer_argmax_f32_i32 (F := Ideal) a b) ∧ NoWorse b (reducer_argmax_f32_i32 (F := Ideal) a b) := by
  obtain ⟨x, i⟩ := a
  obtain ⟨y, j⟩ := b
  replace ha : i.toNat < 2 ^ 31 := ha
  replace hb : j.toNat < 2 ^ 31 := hb
  have hs : i.slt j = decide (i.toNat < j.toNat) := by
    rw [BitVec.slt, BitVec.toInt_eq_toNat_of_lt (by omega), BitVec.toInt_eq_toNat_of_lt (by omega)]
    simp
  have he : reducer_argmax_f32_i32 (F := Ideal) (x, i) (y, j)
      = if y < x then (x, i) else if x = y ∧ i.toNat < j.toNat then (y, i) else (y, j) := by
    unfold reducer_argmax_f32_i32
    simp only [Ideal.cmpf_def, Ideal.cmp, IntOp.cmpi, IntOp.ori, IntOp.andi, Scalar.select, hs]
    by_cases h1 : y < x
    · have h2 : ¬ x = y := fun h => h1.ne' h
      simp [h1, h2]
    · by_cases h2 : x = y
      · subst h2
        by_cases h3 : i.toNat < j.toNat <;> simp [h3]
      · simp [h1, h2]
  rw [he]
  unfold NoWorse
  by_cases h1 : y < x
  · simp [h1]
  · by_cases h2 : x = y
    · subst h2
      by_cases h3 : i.toNat < j.toNat
      · simp [h3, h3.le]
      · simp [h3, not_lt.1 h3]
    · have h4 : x < y := lt_of_le_of_ne (not_lt.1 h1) h2
      simp [h1, h2, h4]

/-- The pairs of a row. -/
theorem mem_fiber (x : FVec Ideal S128x100000 .f32) (r : Fin 128) (p : Ideal .f32 × BitVec 32) :
    p ∈ Host.argReduceFiber x (iotaInDim S128x100000 32 1) reducesTo_S128x100000_S128_d1 (ValueIdx.ix1 r)
      ↔ ∃ c : Fin 100000, p = (x (ValueIdx.ix2 r c), BitVec.ofNat 32 c.val) := by
  unfold Host.argReduceFiber
  simp only [List.mem_map, List.mem_filter, List.mem_finRange, true_and, decide_eq_true_eq, drop_iff]
  constructor
  · rintro ⟨n, hn, rfl⟩
    generalize S128x100000.rowMajor.symm n = i at hn ⊢
    refine ⟨i 1, ?_⟩
    subst hn
    exact Prod.ext (congrArg x (ix2_eta i)) rfl
  · rintro ⟨c, rfl⟩
    refine ⟨S128x100000.rowMajor (ValueIdx.ix2 r c), ?_, ?_⟩ <;> rw [Equiv.symm_apply_apply] <;> rfl

/-- At the ideal floats the places an argmax finds are those of a fold over the pairs. -/
theorem places_fold {s t u : Shape} {axes : List (Fin s.rank)} {φ : FTy} {β : Type} (f : Ideal φ × β → Ideal φ × β → Ideal φ × β)
    (x : FVec Ideal s φ) (y : s.Idx → β) (ix : u.Idx → Ideal φ) (iy : u.Idx → β) (h : s.ReducesTo axes t) (hu : 0 < u.numel) (j : t.Idx) :
    places f x y ix iy h hu j
      = ((Host.argReduceFiber x y h j).foldl f (ix (Shape.Idx.first hu), iy (Shape.Idx.first hu))).2 :=
  congrArg Prod.snd ((congrFun (Ideal.argReduce_eq_reduce2 f x y ix iy h hu) j).trans (Host.reduce2_eq_foldl_fiber f x y ix iy h hu j))

/-- The reference's argmax of a row is a fold over the row's pairs, from the least value. -/
theorem rowArg_fold (x : FVec Ideal S128x100000 .f32) (r : Fin 128) : ∃ z : Ideal .f32 × BitVec 32, z.1 = (⊥ : EReal) ∧ z.2 = 0#32
    ∧ rowArg (F := Ideal) x (ValueIdx.ix1 r)
      = ((Host.argReduceFiber x (iotaInDim S128x100000 32 1) reducesTo_S128x100000_S128_d1 (ValueIdx.ix1 r)).foldl
          (reducer_argmax_f32_i32 (F := Ideal)) z).2 := by
  unfold rowArg
  exact ⟨_, bot_eq, rfl, places_fold _ _ _ _ _ _ _ _⟩

/-- The reference's argmax of a row is the place of the row's first greatest element. -/
theorem rowArg_first (x : FVec Ideal S128x100000 .f32) (r : Fin 128) :
    ∃ o, FirstMax (row x r) 0 100000 o ∧ rowArg (F := Ideal) x (ValueIdx.ix1 r) = BitVec.ofNat 32 o := by
  have hmem := mem_fiber x r
  obtain ⟨z, hz1, hz2, hr⟩ := rowArg_fold x r
  generalize Host.argReduceFiber x (iotaInDim S128x100000 32 1) reducesTo_S128x100000_S128_d1 (ValueIdx.ix1 r) = L at hmem hr
  obtain ⟨b1, b2, b3⟩ := foldl_best (α := Ideal .f32 × BitVec 32) id (reducer_argmax_f32_i32 (F := Ideal)) NoWorse
    (fun a => a.2.toNat < 2 ^ 31) (fun a => .inr ⟨rfl, le_rfl⟩)
    (fun a b c h h' => by
      rcases h with h | ⟨h, k⟩ <;> rcases h' with h' | ⟨h', k'⟩
      · exact .inl (h.trans h')
      · exact .inl (h' ▸ h)
      · exact .inl (h ▸ h')
      · exact .inr ⟨h.trans h', k'.trans k⟩)
    argmax_step L z (by rw [hz2]; decide) (fun b hb => by
      obtain ⟨c, rfl⟩ := (hmem b).1 hb
      have := c.isLt
      simp only [id, BitVec.toNat_ofNat]; omega)
  replace hr : rowArg (F := Ideal) x (ValueIdx.ix1 r) = (L.foldl (fun a b => reducer_argmax_f32_i32 (F := Ideal) a (id b)) z).2 := hr
  generalize L.foldl (fun a b => reducer_argmax_f32_i32 (F := Ideal) a (id b)) z = p at b1 b2 b3 hr
  have hmod (c : Fin 100000) : (BitVec.ofNat 32 c.val).toNat = c.val := by
    have := c.isLt
    simp only [BitVec.toNat_ofNat]; omega
  -- the pair the fold ends with is one of the row's
  obtain ⟨c, hc⟩ : ∃ c : Fin 100000, p = (x (ValueIdx.ix2 r c), BitVec.ofNat 32 c.val) := by
    rcases b1 with b1 | ⟨b, hb, b1⟩
    · refine ⟨⟨0, by decide⟩, ?_⟩
      have h := b3 (x (ValueIdx.ix2 r ⟨0, by decide⟩), BitVec.ofNat 32 0) ((hmem _).2 ⟨⟨0, by decide⟩, rfl⟩)
      rw [b1] at h ⊢
      rcases h with h | ⟨h, _⟩
      · rw [hz1] at h
        exact absurd h not_lt_bot
      · exact Prod.ext h.symm hz2
    · obtain ⟨c, hc⟩ := (hmem b).1 hb
      exact ⟨c, b1.trans hc⟩
  have hrow (d : ℕ) (hd : d < 100000) : row x r d = x (ValueIdx.ix2 r ⟨d, hd⟩) := dif_pos hd
  refine ⟨c.val, ⟨Nat.zero_le _, c.isLt, fun d _ hd => ?_, fun d _ hd => ?_⟩, by rw [hr, hc]⟩
  · rw [hrow d hd, hrow c.val c.isLt]
    have h := b3 _ ((hmem _).2 ⟨⟨d, hd⟩, rfl⟩)
    rw [hc] at h
    exact h.elim le_of_lt fun h => h.1.le
  · have hd' : d < 100000 := hd.trans c.isLt
    rw [hrow d hd', hrow c.val c.isLt]
    have h := b3 _ ((hmem _).2 ⟨⟨d, hd'⟩, rfl⟩)
    rw [hc] at h
    rcases h with h | ⟨_, h⟩
    · exact h
    · have h' : c.val ≤ d := (hmod c).symm.trans_le (le_of_le_of_eq h (hmod ⟨d, hd'⟩))
      omega

/-- A row's number, read along the row. -/
theorem rows_apply (v : FVec Ideal S128 .f32) (r : Fin 128) (c : Fin 100000) : rows v (ValueIdx.ix2 r c) = v (ValueIdx.ix1 r) := by
  refine congrArg v (funext fun b => ?_)
  obtain rfl : b = 0 := Fin.fin_one_eq_zero b
  exact Fin.ext rfl

/-- The greater of the least value and another is the other. -/
theorem max_least (y : FVec Ideal S128 .f32) (r : Fin 128) :
    maximumf (broadcastInDim S128 ![] bcast_S_S128 (constant (F := Ideal) S_ .f32 0xFF800000#32)) y (ValueIdx.ix1 r)
      = y (ValueIdx.ix1 r) := by
  show max (Ideal.ofBits .f32 0xFF800000#32) (y (ValueIdx.ix1 r)) = _
  rw [bot_eq, bot_sup_eq]

/-- A row's maximum is a fold over the row's elements, from the least value. -/
theorem rowMax_fold (x : FVec Ideal S128x100000 .f32) (r : Fin 128) : ∃ (L : List S128x100000.Idx) (z : Ideal .f32), z = (⊥ : EReal)
    ∧ (∀ i, i ∈ L ↔ i 0 = r)
    ∧ rowMax (F := Ideal) x (ValueIdx.ix1 r) = L.foldl (fun a i => FloatOps.maximumf a (x i)) z := by
  refine ⟨_, constant (F := Ideal) S_ .f32 0xFF800000#32 (Shape.Idx.first h_S_), bot_eq, fun i => ?_,
    (max_least _ r).trans (Host.reduce_eq_foldl _ _ _ _ _ _)⟩
  simp only [List.mem_filter, List.mem_map, List.mem_finRange, true_and, decide_eq_true_eq, drop_iff]
  exact ⟨fun h => h.2, fun h => ⟨⟨S128x100000.rowMajor i, by rw [Equiv.symm_apply_apply]⟩, h⟩⟩

/-- A row's maximum is its greatest element. -/
theorem rowMax_spec (x : FVec Ideal S128x100000 .f32) (r : Fin 128) :
    (∀ c, x (ValueIdx.ix2 r c) ≤ rowMax (F := Ideal) x (ValueIdx.ix1 r))
      ∧ ∃ c, x (ValueIdx.ix2 r c) = rowMax (F := Ideal) x (ValueIdx.ix1 r) := by
  obtain ⟨L, z, hz, hmem, hr⟩ := rowMax_fold x r
  obtain ⟨b1, b2, b3⟩ := foldl_best (α := EReal) x (FloatOps.maximumf (F := Ideal) (φ := .f32)) (· ≤ ·) (fun _ => True)
    le_refl (fun _ _ _ => le_trans)
    (fun a b _ _ => ⟨max_choice a b, le_max_left a b, le_max_right a b⟩) L z trivial (fun _ _ => trivial)
  generalize rowMax (F := Ideal) x (ValueIdx.ix1 r) = M at hr ⊢
  generalize L.foldl (fun a i => FloatOps.maximumf a (x i)) z = M' at b1 b2 b3 hr
  subst hr
  have hle (c : Fin 100000) : x (ValueIdx.ix2 r c) ≤ M := b3 _ ((hmem _).2 rfl)
  refine ⟨hle, ?_⟩
  rcases b1 with b1 | ⟨i, hi, b1⟩
  · refine ⟨⟨0, by decide⟩, ?_⟩
    have h := hle ⟨0, by decide⟩
    rw [b1, hz] at h ⊢
    exact le_bot_iff.1 h
  · have h := (hmem i).1 hi
    subst h
    exact ⟨i 1, (congrArg x (ix2_eta i)).symm.trans b1.symm⟩

/-- A row's sum. -/
theorem rowSum (x : FVec Ideal S128x100000 .f32) (r : Fin 128) :
    Host.reduceAdd (F := Ideal) x (constant S_ .f32 0x00000000#32) reducesTo_S128x100000_S128_d1 h_S_ (ValueIdx.ix1 r)
      = ∑ c : Fin 100000, x (ValueIdx.ix2 r c) := by
  have h := Ideal.hostReduceAdd_single reducesTo_S128x100000_S128_d1 reduces_row x (Ideal.ofBits .f32 0x00000000#32) (ValueIdx.ix1 r)
  rw [Ideal.ofBits_zero_f32, zero_add] at h
  have hc : Host.reduceAdd (F := Ideal) x (constant S_ .f32 0x00000000#32) reducesTo_S128x100000_S128_d1 h_S_ (ValueIdx.ix1 r)
      = Ideal.hostReduceAdd reducesTo_S128x100000_S128_d1 x 0 (ValueIdx.ix1 r) := by
    show Ideal.hostReduceAdd reducesTo_S128x100000_S128_d1 x (Ideal.ofBits .f32 0x00000000#32) (ValueIdx.ix1 r) = _
    exact congrArg (fun z => Ideal.hostReduceAdd reducesTo_S128x100000_S128_d1 x z (ValueIdx.ix1 r)) Ideal.ofBits_zero_f32
  refine (hc.trans h).trans (Finset.sum_congr rfl fun c _ => congrArg x ?_)
  funext b
  match b with
  | ⟨0, _⟩ => rfl
  | ⟨1, _⟩ => rfl

/-- An element's noise is its word's. -/
theorem noise_apply (w : IVec S128x100000 32) (i : S128x100000.Idx) : noise (F := Ideal) w i = refNoise (w i) := by
  have hs : Host.shrui w (fill (constantI S_ 32 9#32)) i = w i >>> 9#32 := shrui_lt _ (w i) 9#32 (by decide)
  have h : noise (F := Ideal) w i
      = max (Ideal.ofBits .f32 0x2EDBE6FF#32)
          (-Ideal.log1p (-max (Ideal.ofBits .f32 0x00000000#32)
            ((Ideal.ofBits .f32 (Host.shrui w (fill (constantI S_ 32 9#32)) i ||| 1065353216#32) - Ideal.ofBits .f32 0x3F800000#32)
              * (Ideal.ofBits .f32 0x3F800000#32 - Ideal.ofBits .f32 0x00000000#32) + Ideal.ofBits .f32 0x00000000#32))) := rfl
  rw [h, hs, Ideal.ofBits_one_f32, Ideal.ofBits_zero_f32]
  rfl

/-- A quotient of arrays, element by element. -/
theorem divf_apply (a b : FVec Ideal S128x100000 .f32) (i : S128x100000.Idx) : Host.divf a b i = Ideal.div (a i) (b i) := rfl

/-- The exponentials of a row. -/
theorem expd_apply (x : FVec Ideal S128x100000 .f32) (r : Fin 128) (c : Fin 100000) :
    expd x (ValueIdx.ix2 r c) = Ideal.exp (x (ValueIdx.ix2 r c) - rowMax x (ValueIdx.ix1 r)) :=
  (rfl : expd x (ValueIdx.ix2 r c) = Ideal.exp (x (ValueIdx.ix2 r c) - rows (rowMax x) (ValueIdx.ix2 r c))).trans
    (congrArg (fun m => Ideal.exp (x (ValueIdx.ix2 r c) - m)) (rows_apply _ r c))

/-- A row's probabilities over its noise. -/
theorem chance_apply (x : FVec Ideal S128x100000 .f32) (w : IVec S128x100000 32) (r : Fin 128) (c : Fin 100000) :
    Host.divf (probs x) (noise w) (ValueIdx.ix2 r c)
      = Ideal.div (Ideal.div (Ideal.exp (x (ValueIdx.ix2 r c) - rowMax x (ValueIdx.ix1 r)))
          (∑ d : Fin 100000, Ideal.exp (x (ValueIdx.ix2 r d) - rowMax x (ValueIdx.ix1 r)))) (refNoise (w (ValueIdx.ix2 r c))) := by
  unfold probs
  rw [divf_apply, divf_apply, noise_apply, expd_apply, rows_apply, rowSum]
  simp only [expd_apply]

/-- A row's scores: the scaled logits plus the noise, past the row's end `⊥`. -/
noncomputable def gumbel (x : FVec Ideal S128x100000 .f32) (w : IVec S128x100000 32) (r : Fin 128) (c : ℕ) : EReal :=
  if h : c < 100000 then x (ValueIdx.ix2 r ⟨c, h⟩) + kerNoise (w (ValueIdx.ix2 r ⟨c, h⟩)) else ⊥

/-- With no scaled logit `⊤`, a sampled row's place is the first greatest score's. -/
theorem chance_first (x : FVec Ideal S128x100000 .f32) (w : IVec S128x100000 32) (r : Fin 128)
    (hx : ∀ c : Fin 100000, x (ValueIdx.ix2 r c) ≠ (⊤ : EReal)) :
    ∃ o, FirstMax (gumbel x w r) 0 100000 o ∧ rowArg (F := Ideal) (Host.divf (probs x) (noise w)) (ValueIdx.ix1 r) = BitVec.ofNat 32 o := by
  obtain ⟨o, ho, hr⟩ := rowArg_first (Host.divf (probs x) (noise w)) r
  refine ⟨o, ho.congr fun c d hc hd => ?_, hr⟩
  have hn (c : Fin 100000) := noise_eq (w (ValueIdx.ix2 r c))
  choose e he hre hke using hn
  obtain ⟨hm, hm'⟩ := rowMax_spec x r
  have h := order_iff (fun c : Fin 100000 => (x (ValueIdx.ix2 r c) : EReal)) hx (rowMax x (ValueIdx.ix1 r)) hm hm' e he ⟨c, hc⟩ ⟨d, hd⟩
  unfold row gumbel
  rw [dif_pos hc, dif_pos hd, dif_pos hc, dif_pos hd, chance_apply, chance_apply, hre, hre, hke, hke]
  exact h

/-- A row is greedy when its temperature is no more than the least. -/
theorem greedyMask_apply (t : FVec Ideal S128 .f32) (r : Fin 128) :
    greedyMask t (ValueIdx.ix1 r) = BitVec.ofBool (decide ((t (ValueIdx.ix1 r) : EReal) ≤ Ideal.ofBits .f32 0x2EDBE6FF#32)) := rfl

/-- The scaled logits. -/
theorem scaled_apply (l : FVec Ideal S128x100000 .f32) (t : FVec Ideal S128 .f32) (r : Fin 128) (c : Fin 100000) :
    scaled l t (ValueIdx.ix2 r c)
      = Ideal.div (l (ValueIdx.ix2 r c))
          (if (t (ValueIdx.ix1 r) : EReal) ≤ Ideal.ofBits .f32 0x2EDBE6FF#32 then 1 else t (ValueIdx.ix1 r)) := by
  unfold scaled
  rw [divf_apply, rows_apply, ValueIdx.select_apply, greedyMask_apply, pick_ofBool]
  congr 2
  exact Ideal.ofBits_one_f32

/-- The reference's result at a row is the place of the first greatest of the kernel's scores, when no logit of a sampled
    row is `⊤`. -/
theorem result_first (l : FVec Ideal S128x100000 .f32) (t : FVec Ideal S128 .f32) (r : Fin 128)
    (hp : ∀ c : Fin 100000, (t (ValueIdx.ix1 r) : EReal) ≤ Ideal.ofBits .f32 0x2EDBE6FF#32 ∨ (l (ValueIdx.ix2 r c) : EReal) < ⊤) :
    ∃ o, FirstMax (scores l t r) 0 100000 o ∧ result l t (ValueIdx.ix1 r) = BitVec.ofNat 32 o := by
  unfold result
  rw [ValueIdx.select_apply, greedyMask_apply, pick_ofBool]
  by_cases ht : (t (ValueIdx.ix1 r) : EReal) ≤ Ideal.ofBits .f32 0x2EDBE6FF#32
  · rw [if_pos ht]
    obtain ⟨o, ho, hr⟩ := rowArg_first l r
    refine ⟨o, ho.congr fun c d hc hd => ?_, hr⟩
    have h1 : Ideal.div 1 1 = 1 := by rw [← EReal.coe_one, Ideal.div_coe one_ne_zero]; norm_num
    have hs (c : ℕ) (hc : c < 100000) : scores l t r c = row l r c := by
      unfold scores score row
      rw [dif_pos hc, dif_pos hc, if_pos ht, if_pos ht, h1, mul_one, mul_zero, add_zero]
    rw [hs c hc, hs d hd]
  · rw [if_neg ht]
    have htp : (0 : EReal) < t (ValueIdx.ix1 r) := by
      obtain ⟨b, hb, hbe⟩ := least_eq
      rw [hbe] at ht
      exact (show (0 : EReal) < (b : EReal) by exact_mod_cast hb).trans (not_le.1 ht)
    obtain ⟨o, ho, hr⟩ := chance_first (scaled l t) (xori outWords.1 outWords.2) r fun c => by
      rw [scaled_apply, if_neg ht]
      exact div_ne_top _ _ ((hp c).resolve_left ht) htp
    refine ⟨o, ho.congr fun c d hc hd => ?_, hr⟩
    have hs (c : ℕ) (hc : c < 100000) : scores l t r c = gumbel (scaled l t) (xori outWords.1 outWords.2) r c := by
      unfold scores score gumbel
      rw [dif_pos hc, dif_pos hc, if_neg ht, if_neg ht, mul_one, scaled_apply, if_neg ht, word_apply]
      have hd : l (ValueIdx.ix2 r ⟨c, hc⟩) * Ideal.div 1 (t (ValueIdx.ix1 r)) = Ideal.div (l (ValueIdx.ix2 r ⟨c, hc⟩)) (t (ValueIdx.ix1 r)) := by
        unfold Ideal.div
        rw [if_neg htp.ne', if_neg htp.ne', one_mul]
      exact congrArg (· + kerNoise (cipher (BitVec.ofNat 32 (100000 * r.val + c) + 12345#32))) hd
    rw [hs c hc, hs d hd]

end Cert.ReferenceIdeal.Hand
-- ==== Proof.KernelBlock.lean ====
module

public import proofs.«01_k».proof.Proof.RefValue
public import Idealize.ShloMosaic.Lib.Pipeline.Value

/-!
  One block of the kernel at the ideal floats: its masked scores are the scores of Scalar.lean's terms, its maximum and its
  least column of that maximum are the first greatest of the block's scores.
-/

@[expose] public section

set_option maxRecDepth 16384

noncomputable section

namespace Cert.KernelIdeal.Hand

open Cert.KernelIdeal Cert.KernelIdeal.Gen
open Idealize.ShloMosaic Cert.Words Cert.Scalar

/-! ## Reading the block's vectors -/

/-- A row's place in a one-column array. -/
abbrev cell (r : Fin 128) : S128x1.Idx := ValueIdx.ix2 r (0 : Fin 1)

/-- An element's place in a block. -/
abbrev spot (r : Fin 128) (j : Fin 2048) : S128x2048.Idx := ValueIdx.ix2 r j

theorem spot_eta (i : S128x2048.Idx) : i = spot (i 0) (i 1) := by
  funext b
  match b with
  | ⟨0, _⟩ => rfl
  | ⟨1, _⟩ => rfl

/-- One number per row, along the row. -/
theorem spread_apply {α : Type} (x : S128x1.Idx → α) (r : Fin 128) (j : Fin 2048) :
    broadcastTo S128x2048 x broadcasts_S128x1_S128x2048 (spot r j) = x (cell r) :=
  broadcastTo_apply x broadcasts_S128x1_S128x2048 (spot r j) (cell r) fun a => match a with
    | ⟨0, _⟩ => rfl
    | ⟨1, _⟩ => rfl

/-- A vector as a one-column array. -/
theorem column_apply {α : Type} (x : S128.Idx → α) (r : Fin 128) :
    shapeCast S128x1 x shapeCasts_S128_S128x1 (cell r) = x (ValueIdx.ix1 r) :=
  shapeCast_apply x shapeCasts_S128_S128x1 (cell r) (ValueIdx.ix1 r) (by
    rw [Shape.rowMajor_val_two, Shape.rowMajor_val_one]
    show r.val = r.val * 1 + 0
    omega)

/-- The inverse temperature of a row. -/
theorem pay10_apply (T : FVec Ideal S128x1 .f32) (r : Fin 128) :
    k0_pay10 (F := Ideal) T (cell r)
      = Ideal.div 1 (if (T (cell r) : EReal) ≤ Ideal.ofBits .f32 0x2EDBE6FF#32 then 1 else T (cell r)) := by
  have h : k0_pay10 (F := Ideal) T (cell r)
      = Ideal.div (Ideal.ofBits .f32 0x3F800000#32)
          (Scalar.select (BitVec.ofBool (decide ((T (cell r) : EReal) ≤ Ideal.ofBits .f32 0x2EDBE6FF#32)))
            (Ideal.ofBits .f32 0x3F800000#32) (T (cell r))) := by
    unfold k0_pay10 k0_pay9 k0_pay8
    simp only [shapeCast_self]
    rfl
  rw [h, pick_ofBool, Ideal.ofBits_one_f32]

/-- The noise scale of a row. -/
theorem pay11_apply (T : FVec Ideal S128x1 .f32) (r : Fin 128) :
    k0_pay11 (F := Ideal) T (cell r) = (if (T (cell r) : EReal) ≤ Ideal.ofBits .f32 0x2EDBE6FF#32 then (0 : EReal) else 1) := by
  have h : k0_pay11 (F := Ideal) T (cell r)
      = Scalar.select (BitVec.ofBool (decide ((T (cell r) : EReal) ≤ Ideal.ofBits .f32 0x2EDBE6FF#32)))
            (Ideal.ofBits .f32 0x00000000#32) (Ideal.ofBits .f32 0x3F800000#32) := by
    unfold k0_pay11 k0_pay9 k0_pay8
    simp only [shapeCast_self]
    rfl
  rw [h, pick_ofBool, Ideal.ofBits_one_f32, Ideal.ofBits_zero_f32]

/-- A row's first number. -/
theorem pay12_apply (r : Fin 128) : k0_pay12 (cell r) = BitVec.ofNat 32 (100000 * r.val) := by
  have h : k0_pay12 (cell r) = IntOp.muli (BitVec.ofNat 32 (0 * S128x1.size 0 + r.val)) (BitVec.ofNat 32 100000) := by
    unfold k0_pay12
    simp only [shapeCast_self]
    rfl
  rw [h, WordCmp.muli_ofNat, Nat.zero_mul, Nat.zero_add, Nat.mul_comm]

/-- An element's number, the key's word added. -/
theorem pay14_apply (t : Fin cfg0.N) (r : Fin 128) (j : Fin 2048) :
    k0_pay14 (F := Ideal) (grid0.coords t) k0_pay12 (spot r j) = BitVec.ofNat 32 (100000 * r.val + (t.val * 2048 + j.val)) + 12345#32 := by
  have h : k0_pay14 (F := Ideal) (grid0.coords t) k0_pay12 (spot r j)
      = IntOp.addi (broadcastTo S128x2048 k0_pay12 broadcasts_S128x1_S128x2048 (spot r j)) (k0_pay13 (grid0.coords t) (spot r j)) + 12345#32 := by
    unfold k0_pay14
    rfl
  have e : k0_pay13 (grid0.coords t) (spot r j) = BitVec.ofNat 32 (t.val * 2048 + j.val) := pay13_apply t (spot r j)
  rw [h, spread_apply, pay12_apply, e, WordCmp.addi_ofNat]

/-- The masked scores of a block. -/
def blk (t : Fin cfg0.N) (L : FVec Ideal S128x2048 .f32) (T : FVec Ideal S128x1 .f32) : FVec Ideal S128x2048 .f32 :=
  k0_pay1 (k0_pay13 (grid0.coords t)) (unif (F := Ideal) (grid0.coords t) k0_pay12) L (k0_pay10 (F := Ideal) T) (k0_pay11 (F := Ideal) T)

/-- A masked score, off the vectors it is computed from. -/
theorem pay1_apply (v : IVec S128x2048 32) (u L : FVec Ideal S128x2048 .f32) (a g : FVec Ideal S128x1 .f32) (i : S128x2048.Idx) :
    k0_pay1 v u L a g i
      = Scalar.select (IntOp.cmpi .slt (v i) (BitVec.ofNat 32 100000))
          ((L i : EReal) * broadcastTo S128x2048 a broadcasts_S128x1_S128x2048 i
            + (Ideal.ofBits .f32 0x00000000#32
                - Ideal.log (max (Ideal.ofBits .f32 0x00000000#32 - Ideal.log (u i)) (Ideal.ofBits .f32 0x2EDBE6FF#32)))
              * broadcastTo S128x2048 g broadcasts_S128x1_S128x2048 i)
          (Ideal.ofBits .f32 0xFF800000#32) := rfl

/-- A block's masked score. -/
theorem blk_apply (t : Fin cfg0.N) (L : FVec Ideal S128x2048 .f32) (T : FVec Ideal S128x1 .f32) (r : Fin 128) (j : Fin 2048) :
    blk t L T (spot r j)
      = if t.val * 2048 + j.val < 100000 then
          score (L (spot r j)) (T (cell r)) (cipher (BitVec.ofNat 32 (100000 * r.val + (t.val * 2048 + j.val)) + 12345#32))
        else (⊥ : EReal) := by
  have ht : t.val < 49 := t.isLt
  have hj : j.val < 2048 := j.isLt
  have e : k0_pay13 (grid0.coords t) (spot r j) = BitVec.ofNat 32 (t.val * 2048 + j.val) := pay13_apply t (spot r j)
  unfold blk
  rw [pay1_apply, e, WordCmp.cmpi_slt_ofNat (by omega) (by omega), pick_ofBool, spread_apply, spread_apply, pay10_apply, pay11_apply,
    unif_apply, pay14_apply, bot_eq, Ideal.ofBits_zero_f32]
  rfl

/-! ## A block's maximum and the least column of it -/

/-- The elements that reduce to a row are the row's. -/
theorem drop_iff (i : S128x2048.Idx) (r : Fin 128) : reduces_S128x2048_S128.drop i = ValueIdx.ix1 r ↔ i 0 = r := by
  have hv : ((reduces_S128x2048_S128.drop i) 0).val = (i 0).val := rfl
  constructor
  · intro h
    rw [h] at hv
    exact Fin.ext hv.symm
  · intro h
    funext b
    obtain rfl : b = 0 := Fin.fin_one_eq_zero b
    exact Fin.ext (hv.trans (congrArg Fin.val h))

/-- A reduction of a block is a fold over the row's elements. -/
theorem fold_row {α : Type} (f : α → α → α) (z : α) (x : S128x2048.Idx → α) (r : Fin 128) : ∃ L : List S128x2048.Idx,
    (∀ i, i ∈ L ↔ i 0 = r) ∧ reduceFold reduces_S128x2048_S128 f z x (ValueIdx.ix1 r) = L.foldl (fun a i => f a (x i)) z := by
  refine ⟨_, fun i => ?_, reduceFold_eq_foldl reduces_S128x2048_S128 f z x (ValueIdx.ix1 r)⟩
  simp only [List.mem_filter, List.mem_map, List.mem_finRange, true_and, decide_eq_true_eq, drop_iff]
  exact ⟨fun h => h.2, fun h => ⟨⟨S128x2048.rowMajor i, by rw [Equiv.symm_apply_apply]⟩, h⟩⟩

/-- The greatest element of a row of a block. -/
theorem rowMax_spec (x : FVec Ideal S128x2048 .f32) (r : Fin 128) (M : Ideal .f32)
    (hM : M = reduceFold reduces_S128x2048_S128 (FloatOps.maximumf (F := Ideal) (φ := .f32)) (FloatOps.ofBits .f32 0xFF800000#32) x (ValueIdx.ix1 r)) :
    (∀ j, (x (spot r j) : EReal) ≤ M) ∧ ∃ j, x (spot r j) = M := by
  obtain ⟨L, hmem, hr⟩ := fold_row (FloatOps.maximumf (F := Ideal) (φ := .f32)) (FloatOps.ofBits .f32 0xFF800000#32) x r
  rw [hr] at hM
  obtain ⟨b1, b2, b3⟩ := foldl_best (α := EReal) x (FloatOps.maximumf (F := Ideal) (φ := .f32)) (· ≤ ·) (fun _ => True)
    le_refl (fun _ _ _ => le_trans)
    (fun a b _ _ => ⟨max_choice a b, le_max_left a b, le_max_right a b⟩) L (FloatOps.ofBits (F := Ideal) .f32 0xFF800000#32) trivial (fun _ _ => trivial)
  generalize L.foldl (fun a i => FloatOps.maximumf a (x i)) (FloatOps.ofBits (F := Ideal) .f32 0xFF800000#32) = M' at b1 b2 b3 hM
  subst hM
  have hle (j : Fin 2048) : (x (spot r j) : EReal) ≤ M := b3 _ ((hmem _).2 rfl)
  refine ⟨hle, ?_⟩
  rcases b1 with b1 | ⟨i, hi, b1⟩
  · refine ⟨⟨0, by decide⟩, ?_⟩
    have h := hle ⟨0, by decide⟩
    have hb : M = (⊥ : EReal) := b1.trans bot_eq
    rw [hb] at h ⊢
    exact le_bot_iff.1 h
  · have h := (hmem i).1 hi
    subst h
    exact ⟨i 1, (congrArg x (spot_eta i)).symm.trans b1.symm⟩

/-- The lesser of two words below the sign. -/
theorem minsi_step (a b : BitVec 32) (ha : a.toNat < 2 ^ 31) (hb : b.toNat < 2 ^ 31) :
    (IntOp.minsi a b = a ∨ IntOp.minsi a b = b) ∧ (IntOp.minsi a b).toNat ≤ a.toNat ∧ (IntOp.minsi a b).toNat ≤ b.toNat := by
  have hs : a.slt b = decide (a.toNat < b.toNat) := by
    rw [BitVec.slt, BitVec.toInt_eq_toNat_of_lt (by omega), BitVec.toInt_eq_toNat_of_lt (by omega)]
    simp
  unfold IntOp.minsi
  rw [hs]
  by_cases h : a.toNat < b.toNat
  · simp [h, h.le]
  · simp [h, not_lt.1 h]

/-- The least element of a row of a block of words below the sign. -/
theorem rowMin_spec (x : IVec S128x2048 32) (hx : ∀ i, (x i).toNat < 2 ^ 31) (r : Fin 128) (M : BitVec 32)
    (hM : M = reduceFold reduces_S128x2048_S128 IntOp.minsi 2147483647#32 x (ValueIdx.ix1 r)) :
    (∀ j, M.toNat ≤ (x (spot r j)).toNat) ∧ (M = 2147483647#32 ∨ ∃ j, x (spot r j) = M) := by
  obtain ⟨L, hmem, hr⟩ := fold_row IntOp.minsi 2147483647#32 x r
  rw [hr] at hM
  obtain ⟨b1, b2, b3⟩ := foldl_best x IntOp.minsi (fun a b => b.toNat ≤ a.toNat) (fun a => a.toNat < 2 ^ 31)
    (fun _ => le_rfl) (fun _ _ _ h h' => h'.trans h) minsi_step L 2147483647#32 (by decide) (fun _ _ => hx _)
  rw [← hM] at b1 b2 b3
  refine ⟨fun j => b3 _ ((hmem _).2 rfl), ?_⟩
  rcases b1 with b1 | ⟨i, hi, b1⟩
  · exact .inl b1
  · have h := (hmem i).1 hi
    subst h
    exact .inr ⟨i 1, (congrArg x (spot_eta i)).symm.trans b1.symm⟩

/-- A block's column where its score is the row's maximum, else a number past every column. -/
theorem columns_apply (t : Fin cfg0.N) (x : FVec Ideal S128x2048 .f32) (y : FVec Ideal S128x1 .f32) (r : Fin 128) (j : Fin 2048) :
    select (cmpf .oeq x (broadcastTo S128x2048 y broadcasts_S128x1_S128x2048)) (k0_pay13 (grid0.coords t)) (broadcast S128x2048 1073741824#32) (spot r j)
      = if (x (spot r j) : EReal) = y (cell r) then BitVec.ofNat 32 (t.val * 2048 + j.val) else 1073741824#32 := by
  have h : select (cmpf .oeq x (broadcastTo S128x2048 y broadcasts_S128x1_S128x2048)) (k0_pay13 (grid0.coords t)) (broadcast S128x2048 1073741824#32) (spot r j)
      = Scalar.select (BitVec.ofBool (decide ((x (spot r j) : EReal) = broadcastTo S128x2048 y broadcasts_S128x1_S128x2048 (spot r j))))
          (k0_pay13 (grid0.coords t) (spot r j)) 1073741824#32 := rfl
  have e : k0_pay13 (grid0.coords t) (spot r j) = BitVec.ofNat 32 (t.val * 2048 + j.val) := pay13_apply t (spot r j)
  rw [h, pick_ofBool, spread_apply, e]

/-- A block's maximum, row by row. -/
def top (t : Fin cfg0.N) (L : FVec Ideal S128x2048 .f32) (T : FVec Ideal S128x1 .f32) : FVec Ideal S128x1 .f32 :=
  k0_pay2 (k0_pay13 (grid0.coords t)) (unif (F := Ideal) (grid0.coords t) k0_pay12) L (k0_pay10 (F := Ideal) T) (k0_pay11 (F := Ideal) T)

/-- A block's first column of its maximum, row by row. -/
def col (t : Fin cfg0.N) (L : FVec Ideal S128x2048 .f32) (T : FVec Ideal S128x1 .f32) : IVec S128x1 32 :=
  k0_pay3 (k0_pay13 (grid0.coords t)) (unif (F := Ideal) (grid0.coords t) k0_pay12) L (k0_pay10 (F := Ideal) T) (k0_pay11 (F := Ideal) T)

/-- A block's maximum and its first column are the first greatest of the block's stretch of any values it holds. -/
theorem block_first (t : Fin cfg0.N) (L : FVec Ideal S128x2048 .f32) (T : FVec Ideal S128x1 .f32) (r : Fin 128) (f : ℕ → EReal)
    (hf : ∀ j : Fin 2048, blk t L T (spot r j) = f (t.val * 2048 + j.val)) :
    ∃ o, FirstMax f (t.val * 2048) ((t.val + 1) * 2048) o ∧ top t L T (cell r) = f o ∧ col t L T (cell r) = BitVec.ofNat 32 o := by
  have ht : t.val < 49 := t.isLt
  have hword (j : Fin 2048) : (BitVec.ofNat 32 (t.val * 2048 + j.val)).toNat = t.val * 2048 + j.val := by
    have := j.isLt
    simp only [BitVec.toNat_ofNat]; omega
  have hM : top t L T (cell r)
      = reduceFold reduces_S128x2048_S128 (FloatOps.maximumf (F := Ideal) (φ := .f32)) (FloatOps.ofBits .f32 0xFF800000#32) (blk t L T) (ValueIdx.ix1 r) := by
    unfold top k0_pay2
    exact column_apply _ r
  obtain ⟨hle, j₀, hj₀⟩ := rowMax_spec _ r _ hM
  have hO : col t L T (cell r)
      = reduceFold reduces_S128x2048_S128 IntOp.minsi 2147483647#32
          (select (cmpf .oeq (blk t L T) (broadcastTo S128x2048 (top t L T) broadcasts_S128x1_S128x2048)) (k0_pay13 (grid0.coords t)) (broadcast S128x2048 1073741824#32))
          (ValueIdx.ix1 r) := by
    unfold col k0_pay3
    exact column_apply _ r
  generalize hx : select (cmpf .oeq (blk t L T) (broadcastTo S128x2048 (top t L T) broadcasts_S128x1_S128x2048)) (k0_pay13 (grid0.coords t)) (broadcast S128x2048 1073741824#32)
    = x at hO
  have hxa (r : Fin 128) (j : Fin 2048) : x (spot r j)
      = if (blk t L T (spot r j) : EReal) = top t L T (cell r) then BitVec.ofNat 32 (t.val * 2048 + j.val) else 1073741824#32 := by
    rw [← hx]; exact columns_apply t _ _ r j
  have hlt (i : S128x2048.Idx) : (x i).toNat < 2 ^ 31 := by
    have h := (congrArg x (spot_eta i)).trans (hxa (i 0) (i 1))
    rw [h]
    split
    · have : (i 1).val < 2048 := (i 1).isLt
      exact lt_of_eq_of_lt (hword (i 1)) (by omega)
    · decide
  obtain ⟨hmin, hat⟩ := rowMin_spec x hlt r _ hO
  have hsmall : (col t L T (cell r)).toNat ≤ t.val * 2048 + j₀.val := by
    have h := hmin j₀
    rwa [hxa, if_pos hj₀, hword] at h
  have hj₀' := j₀.isLt
  obtain ⟨j, hj⟩ := hat.resolve_left fun h => by rw [h] at hsmall; simp only [BitVec.toNat_ofNat] at hsmall; omega
  rw [hxa] at hj
  by_cases hjM : (blk t L T (spot r j) : EReal) = top t L T (cell r)
  · rw [if_pos hjM] at hj
    have hj' := j.isLt
    have hval (d : ℕ) (h1 : t.val * 2048 ≤ d) (h2 : d < (t.val + 1) * 2048) :
        f d = blk t L T (spot r ⟨d - t.val * 2048, by omega⟩) := by
      have e : t.val * 2048 + (d - t.val * 2048) = d := by omega
      rw [hf]
      exact congrArg f e.symm
    refine ⟨t.val * 2048 + j.val, ⟨by omega, by omega, fun d h1 h2 => ?_, fun d h1 h2 => ?_⟩, ?_, hj.symm⟩
    · rw [hval d h1 h2, ← hf j, hjM]
      exact hle _
    · have h2' : d < (t.val + 1) * 2048 := by omega
      rw [hval d h1 h2', ← hf j, hjM]
      refine lt_of_le_of_ne (hle _) fun he => ?_
      have h := hmin ⟨d - t.val * 2048, by omega⟩
      rw [hxa, if_pos he, hword, ← hj, hword] at h
      have h : t.val * 2048 + j.val ≤ t.val * 2048 + (d - t.val * 2048) := h
      omega
    · rw [← hf j]; exact hjM.symm
  · rw [if_neg hjM] at hj
    rw [← hj] at hsmall
    simp only [BitVec.toNat_ofNat] at hsmall
    omega

end Cert.KernelIdeal.Hand

end
-- ==== Proof.KernelValue.lean ====
module

public import proofs.«01_k».proof.Proof.KernelBlock
public import Idealize.ShloMosaic.Lib.Pipeline.ValueKit.Geometry

/-!
  The kernel's result at the ideal floats: after every position the output block holds the first greatest of the scores so
  far, and the run leaves the last position's block, reshaped, in the result.
-/

@[expose] public section

set_option maxRecDepth 16384

noncomputable section

namespace Cert.KernelIdeal.Hand

open Cert.KernelIdeal Cert.KernelIdeal.Gen
open Idealize.ShloMosaic Idealize.ShloMosaic.TcCoe Cert.Words Cert.Scalar
open Cert.ReferenceIdeal.Hand (scores)
open Idealize.ShloMosaic.Pipeline (Dat)

variable (m : (ℓ : Loc nD τ sig) → Buf (Elt Ideal) ℓ) (ρ : Dev nD → PrngReg)

/-! ## The staged blocks -/

/-- The logits. -/
abbrev logits (c : Dev nD) : FVec Ideal S128x100000 .f32 := m ((c.tc : Thread nD τ).loc main_arg0)

/-- The temperatures. -/
abbrev temps (c : Dev nD) : FVec Ideal S128 .f32 := m ((c.tc : Thread nD τ).loc main_arg1)

/-- The logits' block starts at its point's columns. -/
theorem index_one : ∀ t : Fin cfg0.N, win0_1.index t = ![0, t.val] := by decide +kernel

/-- The temperatures' block is at the array's start. -/
theorem index_zero : ∀ t : Fin cfg0.N, win0_0.index t = ![0, 0] := by decide +kernel

/-- The logits' block below the vocabulary's size. -/
theorem lblk_apply (c : Dev nD) (t : Fin cfg0.N) (r : Fin 128) (j : Fin 2048) (h : t.val * 2048 + j.val < 100000) :
    lblk m c t (spot r j) = logits m c (ValueIdx.ix2 r ⟨t.val * 2048 + j.val, h⟩) := by
  unfold lblk Pipeline.Window.fill
  rw [dif_pos (moved_of_lt t (spot r j) h)]
  refine Eq.trans ?_ (congrFun (V_main_arg0 m c) (ValueIdx.ix2 r ⟨t.val * 2048 + j.val, h⟩))
  blk_simp [iblk]
  refine congrArg (V m c main_arg0) ?_
  blk_ext [index_one t]

/-- The temperatures reach the region as one column. -/
theorem V_main_v0 (c : Dev nD) : V m c main_v0 = broadcastInDim S128x1 ![0] bcast_S128_S128x1_0 (temps m c) := by
  after_reads_simp

/-- The temperatures' block. -/
theorem tblk_apply (c : Dev nD) (r : Fin 128) : tblk m c (cell r) = temps m c (ValueIdx.ix1 r) := by
  have h : tblk m c (cell r) = V m c main_v0 (cell r) := by
    unfold tblk
    blk_simp [iblk]
    refine congrArg (V m c main_v0) ?_
    blk_ext [index_zero (pt 0)]
  rw [h, V_main_v0]
  refine congrArg (temps m c) (funext fun b => ?_)
  obtain rfl : b = 0 := Fin.fin_one_eq_zero b
  exact Fin.ext rfl

/-! ## The scores so far -/

/-- A block's scores are a stretch of the row's. -/
theorem blk_scores (c : Dev nD) (t : Fin cfg0.N) (r : Fin 128) (j : Fin 2048) :
    blk t (lblk m c t) (tblk m c) (spot r j) = scores (logits m c) (temps m c) r (t.val * 2048 + j.val) := by
  rw [blk_apply, tblk_apply]
  unfold scores
  by_cases h : t.val * 2048 + j.val < 100000
  · rw [if_pos h, dif_pos h, lblk_apply m c t r j h]
  · rw [if_neg h, dif_neg h]

/-- After the first position the scratch holds the first block's row maxima. -/
theorem best_zero (c : Dev nD) : best m c 0 = top (pt 0) (lblk m c (pt 0)) (tblk m c) := by
  unfold best k0_pay4
  rw [shapeCast_self]
  rfl

/-- After the first position the output holds the first block's columns. -/
theorem outv_zero (c : Dev nD) : outv m c 0 = col (pt 0) (lblk m c (pt 0)) (tblk m c) := by
  unfold outv
  rfl

/-- A choice between two vectors by which of two others is greater. -/
theorem greater_apply {s : Shape} {α : Type} (f g : FVec Ideal s .f32) (a b : s.Idx → α) (i : s.Idx) :
    select (cmpf .ogt f g) a b i = if (g i : EReal) < f i then a i else b i :=
  pick_ofBool _ _ _

/-- After a later position the scratch holds the block's maximum where that is greater, else what it held. -/
theorem best_succ (c : Dev nD) (n : ℕ) (r : Fin 128) :
    best m c (n + 1) (cell r)
      = if (best m c n (cell r) : EReal) < top (pt (n + 1)) (lblk m c (pt (n + 1))) (tblk m c) (cell r)
        then top (pt (n + 1)) (lblk m c (pt (n + 1))) (tblk m c) (cell r) else best m c n (cell r) := by
  rw [best]
  unfold k0_pay6 k0_pay5
  rw [shapeCast_self]
  exact greater_apply _ _ _ _ _

/-- After a later position the output holds the block's column where the block's maximum is greater, else what it held. -/
theorem outv_succ (c : Dev nD) (n : ℕ) (r : Fin 128) :
    outv m c (n + 1) (cell r)
      = if (best m c n (cell r) : EReal) < top (pt (n + 1)) (lblk m c (pt (n + 1))) (tblk m c) (cell r)
        then col (pt (n + 1)) (lblk m c (pt (n + 1))) (tblk m c) (cell r) else outv m c n (cell r) := by
  rw [outv]
  unfold k0_pay7 k0_pay5
  rw [shapeCast_self]
  exact greater_apply _ _ _ _ _

/-- After every position the output block holds the first greatest of the scores so far, and the scratch its score. -/
theorem so_far (c : Dev nD) (r : Fin 128) (n : ℕ) (hn : n < 49) :
    ∃ o, FirstMax (scores (logits m c) (temps m c) r) 0 ((n + 1) * 2048) o
      ∧ (best m c n (cell r) : EReal) = scores (logits m c) (temps m c) r o ∧ outv m c n (cell r) = BitVec.ofNat 32 o := by
  have hpt (k : ℕ) (hk : k < 49) : (pt k).val = k := Nat.mod_eq_of_lt hk
  have hblock (k : ℕ) (hk : k < 49) := block_first (pt k) (lblk m c (pt k)) (tblk m c) r _ (blk_scores m c (pt k) r)
  induction n with
  | zero =>
    obtain ⟨o, ho, hb, hv⟩ := hblock 0 hn
    rw [hpt 0 hn, Nat.zero_mul] at ho
    exact ⟨o, ho, by rw [best_zero]; exact hb, by rw [outv_zero]; exact hv⟩
  | succ n ih =>
    obtain ⟨o, ho, hb, hv⟩ := ih (by omega)
    obtain ⟨o', ho', hb', hv'⟩ := hblock (n + 1) hn
    rw [hpt (n + 1) hn] at ho'
    rw [best_succ, outv_succ, hb, hb', hv, hv']
    by_cases h : scores (logits m c) (temps m c) r o < scores (logits m c) (temps m c) r o'
    · rw [if_pos h, if_pos h]
      exact ⟨o', ho.take ho' h, rfl, rfl⟩
    · rw [if_neg h, if_neg h]
      exact ⟨o, ho.keep ho' h, rfl, rfl⟩

/-- The last position's output block holds every row's first greatest score's place. -/
theorem last_first (c : Dev nD) (r : Fin 128) :
    ∃ o, FirstMax (scores (logits m c) (temps m c) r) 0 100000 o ∧ outv m c 48 (cell r) = BitVec.ofNat 32 o := by
  obtain ⟨o, ho, -, hv⟩ := so_far m c r 48 (by omega)
  refine ⟨o, ho.shrink (by omega) (by omega) fun d hd => ?_, hv⟩
  unfold scores
  rw [dif_neg (not_lt.2 hd)]

/-! ## The result -/

/-- The region's result is what its last point leaves in the output's buffer, whatever that is. -/
theorem final_of (c : Dev nD) (G : IVec S128x1 32) (h : (dats m 0 c).after 2 (pt 48) = G) : (dats m 0 c).arrAt 2 cfg0.N = G := by
  refine (dats m 0 c).arrAt_eq_of_after_last 2 (pt 48) (by decide +kernel) _ fun j => ?_
  rw [h]
  rfl

/-- The region leaves the last position's output block in its result. -/
theorem final_two (c : Dev nD) : (dats m 0 c).arrAt 2 cfg0.N = outv m c 48 :=
  final_of m c _ ((after_two m c (pt 48)).trans (congrArg (outv m c) (Nat.mod_eq_of_lt (by omega))))

/-- The host's last line, from any contents. -/
theorem tail_apply (W : Valuation τ sig (Elt Ideal)) :
    StableHlo.after (List.flatten [hostOps1]) W (Proc.devRef .tc main_v2)
      = shapeCast S128 (W (Proc.devRef .tc main_v1) : IVec S128x1 32) shapeCasts_S128x1_S128 := by
  after_reads_simp
  rfl

/-- What the run leaves in the result. -/
theorem result_eq (c : Dev nD) :
    Pipeline.afterTail₀ cfgs (dats m) 0 (V0 m) [hostOps1] c main_v2 = shapeCast S128 (outv m c 48) shapeCasts_S128x1_S128 := by
  unfold Pipeline.afterTail₀
  rw [tail_apply]
  refine congrArg (fun v => shapeCast S128 v shapeCasts_S128x1_S128) ?_
  exact (Pipeline.withArrays_arr spec0 winFacts0.arr_inj c (V0 m c) _ 2).trans (final_two m c)

/-- A one-column array as a vector. -/
theorem row_apply (x : IVec S128x1 32) (r : Fin 128) : shapeCast S128 x shapeCasts_S128x1_S128 (ValueIdx.ix1 r) = x (cell r) :=
  shapeCast_apply x shapeCasts_S128x1_S128 (ValueIdx.ix1 r) (cell r) (by
    rw [Shape.rowMajor_val_two, Shape.rowMajor_val_one]
    show r.val * 1 + 0 = r.val
    omega)

/-- From any memory with zero counters every weakly fair execution of @main terminates, the arguments unchanged and every
    row of the result the place of the row's first greatest score. -/
theorem run_result : θ_run defs (onTc (τ := τ) (main (F := Ideal))) ⟨m, fun _ => 0, ρ⟩ (fun r => ∀ c : Dev nD,
      r.2.mem ((c.tc : Thread nD τ).loc main_v2) = shapeCast S128 (outv m c 48) shapeCasts_S128x1_S128
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h.1 c).2 main_v2 (Pipeline.mem_restRefs_of main_v2 (by decide) (by decide))).trans (result_eq m c),
      ((h.1 c).1 1).trans (((dats m 0 c).arrAt_in 1 rfl _).trans ((A_eq m c 1).trans (V_main_arg0 m c))),
      ((h.1 c).2 main_arg1 (Pipeline.mem_restRefs_of main_arg1 (by decide) (by decide))).trans (W_main_arg1 m (dats m) c)⟩)
    (run_main m ρ)

end Cert.KernelIdeal.Hand

end
-- ==== Proof.Algebraic.lean ====
module

public import proofs.«01_k».proof.Defs
public import proofs.«01_k».proof.Proof.Frames
public import proofs.«01_k».proof.Proof.KernelValue
public import proofs.«01_k».proof.Proof.RefValue

/-!
  The idealized kernel and the idealized reference end with the same result, where every logit of a sampled row is below
  +inf: both results hold, row by row, the first place of the greatest of the same scores.
-/

@[expose] public section

set_option maxRecDepth 16384

noncomputable section

namespace Cert.Algebraic

open Idealize.ShloMosaic Idealize.SL.Sem Idealize.ShloMosaic.TcCoe
open Cert.ReferenceIdeal (S128x100000 S128)
open Cert.ReferenceIdeal.Hand (scores)
open Cert.Scalar

/-! ## The precondition, read -/

/-- The precondition's shape facts. -/
theorem preFacts : Cert.Pre_sampled_logits_below_inf.Facts where
  bcast_S_S128 := by decide
  bcast_S128_S128x1_0 := by decide
  bcast_S_S128x100000 := by decide
  bcast_S128x1_S128x100000_0_1 := by decide

/-- One of two truth bits is set. -/
theorem either_of_or (p q : Prop) [Decidable p] [Decidable q] (h : BitVec.ofBool (decide p) ||| BitVec.ofBool (decide q) = 1#1) :
    p ∨ q := by
  by_cases hp : p
  · exact Or.inl hp
  · by_cases hq : q
    · exact Or.inr hq
    · simp [hp, hq] at h

/-- The precondition at one logit: its row is greedy or the logit is below +inf. -/
theorem pre_apply [Cert.Pre_sampled_logits_below_inf.Facts] (l : FVec Ideal S128x100000 .f32) (t : FVec Ideal S128 .f32)
    (h : Cert.Pre_sampled_logits_below_inf.fn (F := Ideal) l t = fun _ => 1#1) (r : Fin 128) (c : Fin 100000) :
    (t (ValueIdx.ix1 r) : EReal) ≤ Ideal.ofBits .f32 0x2EDBE6FF#32 ∨ (l (ValueIdx.ix2 r c) : EReal) < ⊤ := by
  have e : (t (ValueIdx.ix1 r) : EReal) = t fun b => ⟨r.val, by obtain rfl : b = 0 := Fin.fin_one_eq_zero b; exact r.isLt⟩ :=
    congrArg t (funext fun b => by obtain rfl : b = 0 := Fin.fin_one_eq_zero b; exact Fin.ext rfl)
  have hb := congrFun h (ValueIdx.ix2 r c)
  unfold Cert.Pre_sampled_logits_below_inf.fn at hb
  have hor := either_of_or _ _ hb
  rw [e, ← top_eq]
  refine hor.imp (fun hle => le_of_eq_of_le (congrArg t (funext fun b => ?_)) hle) (fun hlt => hlt)
  obtain rfl : b = 0 := Fin.fin_one_eq_zero b
  exact Fin.ext rfl

/-! ## The two results -/

/-- The kernel's result is the reference's. -/
theorem result_agree [Cert.ReferenceIdeal.Facts] (m : (ℓ : Loc Cert.KernelIdeal.nD Cert.KernelIdeal.τ Cert.KernelIdeal.sig) → Buf (Elt Ideal) ℓ)
    (c : Dev Cert.KernelIdeal.nD)
    (hp : ∀ (r : Fin 128) (k : Fin 100000), (Cert.KernelIdeal.Hand.temps m c (ValueIdx.ix1 r) : EReal) ≤ Ideal.ofBits .f32 0x2EDBE6FF#32
      ∨ (Cert.KernelIdeal.Hand.logits m c (ValueIdx.ix2 r k) : EReal) < ⊤) :
    Cert.ReferenceIdeal.Hand.result (F := Ideal) (Cert.KernelIdeal.Hand.logits m c) (Cert.KernelIdeal.Hand.temps m c)
      = shapeCast Cert.KernelIdeal.S128 (Cert.KernelIdeal.Hand.outv m c 48) Cert.KernelIdeal.Gen.shapeCasts_S128x1_S128 := by
  refine funext fun i => ?_
  obtain ⟨r, rfl⟩ : ∃ r : Fin 128, i = ValueIdx.ix1 r :=
    ⟨i 0, funext fun b => by obtain rfl : b = 0 := Fin.fin_one_eq_zero b; exact Fin.ext rfl⟩
  obtain ⟨o, ho, hv⟩ := Cert.ReferenceIdeal.Hand.result_first (Cert.KernelIdeal.Hand.logits m c) (Cert.KernelIdeal.Hand.temps m c) r (hp r)
  obtain ⟨o', ho', hv'⟩ := Cert.KernelIdeal.Hand.last_first m c r
  exact hv.trans ((congrArg (BitVec.ofNat 32) (ho.unique ho')).trans
    (hv'.symm.trans (Cert.KernelIdeal.Hand.row_apply (Cert.KernelIdeal.Hand.outv m c 48) r).symm))

/-- The idealized kernel and the idealized reference end with the same result. -/
theorem algebraic : Cert.algebraic_KernelIdeal_ReferenceIdeal_pre_sampled_logits_below_inf (hKernelIdeal := Cert.KernelIdeal.Gen.facts)
    (hReferenceIdeal := Cert.ReferenceIdeal.Gen.facts) (hPre_sampled_logits_below_inf := preFacts) := by
  intro m g m' g' hpre hargs
  have hp (c : Dev Cert.KernelIdeal.nD) := @pre_apply preFacts (Cert.KernelIdeal.Hand.logits m c) (Cert.KernelIdeal.Hand.temps m c) (hpre c)
  refine ⟨fun c => shapeCast Cert.KernelIdeal.S128 (Cert.KernelIdeal.Hand.outv m c 48) Cert.KernelIdeal.Gen.shapeCasts_S128x1_S128,
    Cert.KernelIdeal.Hand.run_result m g, ?_⟩
  refine (θ_run _ _ _).mono (fun r h c => ⟨(h c).1.trans ?_, (h c).2⟩)
    (@Cert.ReferenceIdeal.Hand.run_result Ideal _ Cert.ReferenceIdeal.Gen.facts m' g')
  refine Eq.trans ?_ (@result_agree Cert.ReferenceIdeal.Gen.facts m c (hp c))
  exact congrArg₂ (@Cert.ReferenceIdeal.Hand.result Ideal _ Cert.ReferenceIdeal.Gen.facts) (hargs c).1 (hargs c).2

end Cert.Algebraic

end
-- ==== Proof.lean ====
/- The certificate's claim, assembled from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Algebraic.preFacts,
    Cert.Frames.frame_Kernel, Cert.Frames.frame_KernelIdeal, fun m g _ => Cert.Frames.frame_KernelIdeal m g trivial,
    Cert.Frames.frame_ReferenceIdeal, fun m g _ => Cert.Frames.frame_ReferenceIdeal m g trivial, trivial,
    Cert.Algebraic.algebraic⟩

end Cert.Proof

end
